-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Tail0 (m : (ℓ : Loc Cert.Tail0.nD Cert.Tail0.τ Cert.Tail0.sig) → Buf (Elt Bits) ℓ) : Prop :=
  True

def Pre_Tail0Ideal (m : (ℓ : Loc Cert.Tail0Ideal.nD Cert.Tail0Ideal.τ Cert.Tail0Ideal.sig) → Buf (Elt Ideal) ℓ) : Prop :=
  True

def Pre_Tail0RefIdeal (m : (ℓ : Loc Cert.Tail0RefIdeal.nD Cert.Tail0RefIdeal.τ Cert.Tail0RefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0)

def quiescent_Tail0 [hTail0 : Cert.Tail0.Facts] : Prop :=
  ∀ (m : (ℓ : Loc Cert.Tail0.nD Cert.Tail0.τ Cert.Tail0.sig) → Buf (Elt Bits) ℓ) (g : Dev Cert.Tail0.nD → PrngReg), Pre_Tail0 m →
    θ_run (Cert.Tail0.defs (F := Bits)) (onTc (τ := Cert.Tail0.τ) (Cert.Tail0.main (F := Bits))) ⟨m, fun _ => 0, g⟩ (fun r => (∀ c : Dev Cert.Tail0.nD,
      r.2.mem ((c.tc : Thread Cert.Tail0.nD Cert.Tail0.τ).loc Cert.Tail0.main_arg0) = m ((c.tc : Thread Cert.Tail0.nD Cert.Tail0.τ).loc Cert.Tail0.main_arg0)
      ∧ r.2.mem ((c.tc : Thread Cert.Tail0.nD Cert.Tail0.τ).loc Cert.Tail0.main_arg1) = m ((c.tc : Thread Cert.Tail0.nD Cert.Tail0.τ).loc Cert.Tail0.main_arg1)
      ∧ r.2.mem ((c.tc : Thread Cert.Tail0.nD Cert.Tail0.τ).loc Cert.Tail0.main_arg2) = m ((c.tc : Thread Cert.Tail0.nD Cert.Tail0.τ).loc Cert.Tail0.main_arg2)
      ∧ r.2.mem ((c.tc : Thread Cert.Tail0.nD Cert.Tail0.τ).loc Cert.Tail0.main_arg3) = m ((c.tc : Thread Cert.Tail0.nD Cert.Tail0.τ).loc Cert.Tail0.main_arg3)
      ∧ r.2.mem ((c.tc : Thread Cert.Tail0.nD Cert.Tail0.τ).loc Cert.Tail0.main_arg4) = m ((c.tc : Thread Cert.Tail0.nD Cert.Tail0.τ).loc Cert.Tail0.main_arg4)
      ∧ r.2.mem ((c.tc : Thread Cert.Tail0.nD Cert.Tail0.τ).loc Cert.Tail0.main_arg5) = m ((c.tc : Thread Cert.Tail0.nD Cert.Tail0.τ).loc Cert.Tail0.main_arg5)
      ∧ r.2.mem ((c.tc : Thread Cert.Tail0.nD Cert.Tail0.τ).loc Cert.Tail0.main_arg6) = m ((c.tc : Thread Cert.Tail0.nD Cert.Tail0.τ).loc Cert.Tail0.main_arg6)
      ∧ r.2.mem ((c.tc : Thread Cert.Tail0.nD Cert.Tail0.τ).loc Cert.Tail0.main_arg7) = m ((c.tc : Thread Cert.Tail0.nD Cert.Tail0.τ).loc Cert.Tail0.main_arg7)
      ∧ r.2.mem ((c.tc : Thread Cert.Tail0.nD Cert.Tail0.τ).loc Cert.Tail0.main_arg8) = m ((c.tc : Thread Cert.Tail0.nD Cert.Tail0.τ).loc Cert.Tail0.main_arg8)
      ∧ r.2.mem ((c.tc : Thread Cert.Tail0.nD Cert.Tail0.τ).loc Cert.Tail0.main_arg9) = m ((c.tc : Thread Cert.Tail0.nD Cert.Tail0.τ).loc Cert.Tail0.main_arg9)
      ∧ r.2.mem ((c.tc : Thread Cert.Tail0.nD Cert.Tail0.τ).loc Cert.Tail0.main_arg10) = m ((c.tc : Thread Cert.Tail0.nD Cert.Tail0.τ).loc Cert.Tail0.main_arg10)
      ∧ r.2.mem ((c.tc : Thread Cert.Tail0.nD Cert.Tail0.τ).loc Cert.Tail0.main_arg11) = m ((c.tc : Thread Cert.Tail0.nD Cert.Tail0.τ).loc Cert.Tail0.main_arg11)
      ∧ r.2.mem ((c.tc : Thread Cert.Tail0.nD Cert.Tail0.τ).loc Cert.Tail0.main_arg12) = m ((c.tc : Thread Cert.Tail0.nD Cert.Tail0.τ).loc Cert.Tail0.main_arg12)
      ∧ r.2.mem ((c.tc : Thread Cert.Tail0.nD Cert.Tail0.τ).loc Cert.Tail0.main_arg13) = m ((c.tc : Thread Cert.Tail0.nD Cert.Tail0.τ).loc Cert.Tail0.main_arg13)
      ∧ r.2.mem ((c.tc : Thread Cert.Tail0.nD Cert.Tail0.τ).loc Cert.Tail0.main_arg14) = m ((c.tc : Thread Cert.Tail0.nD Cert.Tail0.τ).loc Cert.Tail0.main_arg14)
      ∧ r.2.mem ((c.tc : Thread Cert.Tail0.nD Cert.Tail0.τ).loc Cert.Tail0.main_arg15) = m ((c.tc : Thread Cert.Tail0.nD Cert.Tail0.τ).loc Cert.Tail0.main_arg15))
      ∧ r.2.sem = fun _ => 0)

def quiescent_Tail0Ideal [hTail0Ideal : Cert.Tail0Ideal.Facts] : Prop :=
  ∀ (m : (ℓ : Loc Cert.Tail0Ideal.nD Cert.Tail0Ideal.τ Cert.Tail0Ideal.sig) → Buf (Elt Ideal) ℓ) (g : Dev Cert.Tail0Ideal.nD → PrngReg), Pre_Tail0Ideal m →
    θ_run (Cert.Tail0Ideal.defs (F := Ideal)) (onTc (τ := Cert.Tail0Ideal.τ) (Cert.Tail0Ideal.main (F := Ideal))) ⟨m, fun _ => 0, g⟩ (fun r => (∀ c : Dev Cert.Tail0Ideal.nD,
      r.2.mem ((c.tc : Thread Cert.Tail0Ideal.nD Cert.Tail0Ideal.τ).loc Cert.Tail0Ideal.main_arg0) = m ((c.tc : Thread Cert.Tail0Ideal.nD Cert.Tail0Ideal.τ).loc Cert.Tail0Ideal.main_arg0)
      ∧ r.2.mem ((c.tc : Thread Cert.Tail0Ideal.nD Cert.Tail0Ideal.τ).loc Cert.Tail0Ideal.main_arg1) = m ((c.tc : Thread Cert.Tail0Ideal.nD Cert.Tail0Ideal.τ).loc Cert.Tail0Ideal.main_arg1)
      ∧ r.2.mem ((c.tc : Thread Cert.Tail0Ideal.nD Cert.Tail0Ideal.τ).loc Cert.Tail0Ideal.main_arg2) = m ((c.tc : Thread Cert.Tail0Ideal.nD Cert.Tail0Ideal.τ).loc Cert.Tail0Ideal.main_arg2)
      ∧ r.2.mem ((c.tc : Thread Cert.Tail0Ideal.nD Cert.Tail0Ideal.τ).loc Cert.Tail0Ideal.main_arg3) = m ((c.tc : Thread Cert.Tail0Ideal.nD Cert.Tail0Ideal.τ).loc Cert.Tail0Ideal.main_arg3)
      ∧ r.2.mem ((c.tc : Thread Cert.Tail0Ideal.nD Cert.Tail0Ideal.τ).loc Cert.Tail0Ideal.main_arg4) = m ((c.tc : Thread Cert.Tail0Ideal.nD Cert.Tail0Ideal.τ).loc Cert.Tail0Ideal.main_arg4)
      ∧ r.2.mem ((c.tc : Thread Cert.Tail0Ideal.nD Cert.Tail0Ideal.τ).loc Cert.Tail0Ideal.main_arg5) = m ((c.tc : Thread Cert.Tail0Ideal.nD Cert.Tail0Ideal.τ).loc Cert.Tail0Ideal.main_arg5)
      ∧ r.2.mem ((c.tc : Thread Cert.Tail0Ideal.nD Cert.Tail0Ideal.τ).loc Cert.Tail0Ideal.main_arg6) = m ((c.tc : Thread Cert.Tail0Ideal.nD Cert.Tail0Ideal.τ).loc Cert.Tail0Ideal.main_arg6)
      ∧ r.2.mem ((c.tc : Thread Cert.Tail0Ideal.nD Cert.Tail0Ideal.τ).loc Cert.Tail0Ideal.main_arg7) = m ((c.tc : Thread Cert.Tail0Ideal.nD Cert.Tail0Ideal.τ).loc Cert.Tail0Ideal.main_arg7)
      ∧ r.2.mem ((c.tc : Thread Cert.Tail0Ideal.nD Cert.Tail0Ideal.τ).loc Cert.Tail0Ideal.main_arg8) = m ((c.tc : Thread Cert.Tail0Ideal.nD Cert.Tail0Ideal.τ).loc Cert.Tail0Ideal.main_arg8)
      ∧ r.2.mem ((c.tc : Thread Cert.Tail0Ideal.nD Cert.Tail0Ideal.τ).loc Cert.Tail0Ideal.main_arg9) = m ((c.tc : Thread Cert.Tail0Ideal.nD Cert.Tail0Ideal.τ).loc Cert.Tail0Ideal.main_arg9)
      ∧ r.2.mem ((c.tc : Thread Cert.Tail0Ideal.nD Cert.Tail0Ideal.τ).loc Cert.Tail0Ideal.main_arg10) = m ((c.tc : Thread Cert.Tail0Ideal.nD Cert.Tail0Ideal.τ).loc Cert.Tail0Ideal.main_arg10)
      ∧ r.2.mem ((c.tc : Thread Cert.Tail0Ideal.nD Cert.Tail0Ideal.τ).loc Cert.Tail0Ideal.main_arg11) = m ((c.tc : Thread Cert.Tail0Ideal.nD Cert.Tail0Ideal.τ).loc Cert.Tail0Ideal.main_arg11)
      ∧ r.2.mem ((c.tc : Thread Cert.Tail0Ideal.nD Cert.Tail0Ideal.τ).loc Cert.Tail0Ideal.main_arg12) = m ((c.tc : Thread Cert.Tail0Ideal.nD Cert.Tail0Ideal.τ).loc Cert.Tail0Ideal.main_arg12)
      ∧ r.2.mem ((c.tc : Thread Cert.Tail0Ideal.nD Cert.Tail0Ideal.τ).loc Cert.Tail0Ideal.main_arg13) = m ((c.tc : Thread Cert.Tail0Ideal.nD Cert.Tail0Ideal.τ).loc Cert.Tail0Ideal.main_arg13)
      ∧ r.2.mem ((c.tc : Thread Cert.Tail0Ideal.nD Cert.Tail0Ideal.τ).loc Cert.Tail0Ideal.main_arg14) = m ((c.tc : Thread Cert.Tail0Ideal.nD Cert.Tail0Ideal.τ).loc Cert.Tail0Ideal.main_arg14)
      ∧ r.2.mem ((c.tc : Thread Cert.Tail0Ideal.nD Cert.Tail0Ideal.τ).loc Cert.Tail0Ideal.main_arg15) = m ((c.tc : Thread Cert.Tail0Ideal.nD Cert.Tail0Ideal.τ).loc Cert.Tail0Ideal.main_arg15))
      ∧ r.2.sem = fun _ => 0)

def quiescent_Tail0RefIdeal [hTail0RefIdeal : Cert.Tail0RefIdeal.Facts] : Prop :=
  ∀ (m : (ℓ : Loc Cert.Tail0RefIdeal.nD Cert.Tail0RefIdeal.τ Cert.Tail0RefIdeal.sig) → Buf (Elt Ideal) ℓ) (g : Dev Cert.Tail0RefIdeal.nD → PrngReg), Pre_Tail0RefIdeal m →
    θ_run (Cert.Tail0RefIdeal.defs (F := Ideal)) (onTc (τ := Cert.Tail0RefIdeal.τ) (Cert.Tail0RefIdeal.main (F := Ideal))) ⟨m, fun _ => 0, g⟩ (fun r => (∀ c : Dev Cert.Tail0RefIdeal.nD,
      r.2.mem ((c.tc : Thread Cert.Tail0RefIdeal.nD Cert.Tail0RefIdeal.τ).loc Cert.Tail0RefIdeal.main_arg0) = m ((c.tc : Thread Cert.Tail0RefIdeal.nD Cert.Tail0RefIdeal.τ).loc Cert.Tail0RefIdeal.main_arg0)
      ∧ r.2.mem ((c.tc : Thread Cert.Tail0RefIdeal.nD Cert.Tail0RefIdeal.τ).loc Cert.Tail0RefIdeal.main_arg1) = m ((c.tc : Thread Cert.Tail0RefIdeal.nD Cert.Tail0RefIdeal.τ).loc Cert.Tail0RefIdeal.main_arg1)
      ∧ r.2.mem ((c.tc : Thread Cert.Tail0RefIdeal.nD Cert.Tail0RefIdeal.τ).loc Cert.Tail0RefIdeal.main_arg2) = m ((c.tc : Thread Cert.Tail0RefIdeal.nD Cert.Tail0RefIdeal.τ).loc Cert.Tail0RefIdeal.main_arg2)
      ∧ r.2.mem ((c.tc : Thread Cert.Tail0RefIdeal.nD Cert.Tail0RefIdeal.τ).loc Cert.Tail0RefIdeal.main_arg3) = m ((c.tc : Thread Cert.Tail0RefIdeal.nD Cert.Tail0RefIdeal.τ).loc Cert.Tail0RefIdeal.main_arg3)
      ∧ r.2.mem ((c.tc : Thread Cert.Tail0RefIdeal.nD Cert.Tail0RefIdeal.τ).loc Cert.Tail0RefIdeal.main_arg4) = m ((c.tc : Thread Cert.Tail0RefIdeal.nD Cert.Tail0RefIdeal.τ).loc Cert.Tail0RefIdeal.main_arg4)
      ∧ r.2.mem ((c.tc : Thread Cert.Tail0RefIdeal.nD Cert.Tail0RefIdeal.τ).loc Cert.Tail0RefIdeal.main_arg5) = m ((c.tc : Thread Cert.Tail0RefIdeal.nD Cert.Tail0RefIdeal.τ).loc Cert.Tail0RefIdeal.main_arg5)
      ∧ r.2.mem ((c.tc : Thread Cert.Tail0RefIdeal.nD Cert.Tail0RefIdeal.τ).loc Cert.Tail0RefIdeal.main_arg6) = m ((c.tc : Thread Cert.Tail0RefIdeal.nD Cert.Tail0RefIdeal.τ).loc Cert.Tail0RefIdeal.main_arg6)
      ∧ r.2.mem ((c.tc : Thread Cert.Tail0RefIdeal.nD Cert.Tail0RefIdeal.τ).loc Cert.Tail0RefIdeal.main_arg7) = m ((c.tc : Thread Cert.Tail0RefIdeal.nD Cert.Tail0RefIdeal.τ).loc Cert.Tail0RefIdeal.main_arg7)
      ∧ r.2.mem ((c.tc : Thread Cert.Tail0RefIdeal.nD Cert.Tail0RefIdeal.τ).loc Cert.Tail0RefIdeal.main_arg8) = m ((c.tc : Thread Cert.Tail0RefIdeal.nD Cert.Tail0RefIdeal.τ).loc Cert.Tail0RefIdeal.main_arg8)
      ∧ r.2.mem ((c.tc : Thread Cert.Tail0RefIdeal.nD Cert.Tail0RefIdeal.τ).loc Cert.Tail0RefIdeal.main_arg9) = m ((c.tc : Thread Cert.Tail0RefIdeal.nD Cert.Tail0RefIdeal.τ).loc Cert.Tail0RefIdeal.main_arg9)
      ∧ r.2.mem ((c.tc : Thread Cert.Tail0RefIdeal.nD Cert.Tail0RefIdeal.τ).loc Cert.Tail0RefIdeal.main_arg10) = m ((c.tc : Thread Cert.Tail0RefIdeal.nD Cert.Tail0RefIdeal.τ).loc Cert.Tail0RefIdeal.main_arg10)
      ∧ r.2.mem ((c.tc : Thread Cert.Tail0RefIdeal.nD Cert.Tail0RefIdeal.τ).loc Cert.Tail0RefIdeal.main_arg11) = m ((c.tc : Thread Cert.Tail0RefIdeal.nD Cert.Tail0RefIdeal.τ).loc Cert.Tail0RefIdeal.main_arg11)
      ∧ r.2.mem ((c.tc : Thread Cert.Tail0RefIdeal.nD Cert.Tail0RefIdeal.τ).loc Cert.Tail0RefIdeal.main_arg12) = m ((c.tc : Thread Cert.Tail0RefIdeal.nD Cert.Tail0RefIdeal.τ).loc Cert.Tail0RefIdeal.main_arg12)
      ∧ r.2.mem ((c.tc : Thread Cert.Tail0RefIdeal.nD Cert.Tail0RefIdeal.τ).loc Cert.Tail0RefIdeal.main_arg13) = m ((c.tc : Thread Cert.Tail0RefIdeal.nD Cert.Tail0RefIdeal.τ).loc Cert.Tail0RefIdeal.main_arg13)
      ∧ r.2.mem ((c.tc : Thread Cert.Tail0RefIdeal.nD Cert.Tail0RefIdeal.τ).loc Cert.Tail0RefIdeal.main_arg14) = m ((c.tc : Thread Cert.Tail0RefIdeal.nD Cert.Tail0RefIdeal.τ).loc Cert.Tail0RefIdeal.main_arg14)
      ∧ r.2.mem ((c.tc : Thread Cert.Tail0RefIdeal.nD Cert.Tail0RefIdeal.τ).loc Cert.Tail0RefIdeal.main_arg15) = m ((c.tc : Thread Cert.Tail0RefIdeal.nD Cert.Tail0RefIdeal.τ).loc Cert.Tail0RefIdeal.main_arg15))
      ∧ r.2.sem = fun _ => 0)

def preserves_Diff_DiffIdeal : Prop :=
  True

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v14)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v14) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v58) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)) →
    ∃ (v0 : (c : Dev Cert.TailIdeal.nD) → Buf (Elt Ideal) ((c.tc : Thread Cert.TailIdeal.nD Cert.TailIdeal.τ).loc Cert.TailIdeal.main_v15)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v15) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v106) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14))

def preserves_Tail0_Tail0Ideal : Prop :=
  True

def algebraic_Tail0Ideal_Tail0RefIdeal [hTail0Ideal : Cert.Tail0Ideal.Facts] [hTail0RefIdeal : Cert.Tail0RefIdeal.Facts] : Prop :=
  ∀ (m : (ℓ : Loc Cert.Tail0Ideal.nD Cert.Tail0Ideal.τ Cert.Tail0Ideal.sig) → Buf (Elt Ideal) ℓ) (g : Dev Cert.Tail0Ideal.nD → PrngReg)
    (m' : (ℓ : Loc Cert.Tail0RefIdeal.nD Cert.Tail0RefIdeal.τ Cert.Tail0RefIdeal.sig) → Buf (Elt Ideal) ℓ) (g' : Dev Cert.Tail0RefIdeal.nD → PrngReg), Pre_Tail0Ideal m →
    (∀ c : Dev Cert.Tail0Ideal.nD,
      m' ((c.tc : Thread Cert.Tail0RefIdeal.nD Cert.Tail0RefIdeal.τ).loc Cert.Tail0RefIdeal.main_arg0) = m ((c.tc : Thread Cert.Tail0Ideal.nD Cert.Tail0Ideal.τ).loc Cert.Tail0Ideal.main_arg0)
      ∧ m' ((c.tc : Thread Cert.Tail0RefIdeal.nD Cert.Tail0RefIdeal.τ).loc Cert.Tail0RefIdeal.main_arg1) = m ((c.tc : Thread Cert.Tail0Ideal.nD Cert.Tail0Ideal.τ).loc Cert.Tail0Ideal.main_arg1)
      ∧ m' ((c.tc : Thread Cert.Tail0RefIdeal.nD Cert.Tail0RefIdeal.τ).loc Cert.Tail0RefIdeal.main_arg2) = m ((c.tc : Thread Cert.Tail0Ideal.nD Cert.Tail0Ideal.τ).loc Cert.Tail0Ideal.main_arg2)
      ∧ m' ((c.tc : Thread Cert.Tail0RefIdeal.nD Cert.Tail0RefIdeal.τ).loc Cert.Tail0RefIdeal.main_arg3) = m ((c.tc : Thread Cert.Tail0Ideal.nD Cert.Tail0Ideal.τ).loc Cert.Tail0Ideal.main_arg3)
      ∧ m' ((c.tc : Thread Cert.Tail0RefIdeal.nD Cert.Tail0RefIdeal.τ).loc Cert.Tail0RefIdeal.main_arg4) = m ((c.tc : Thread Cert.Tail0Ideal.nD Cert.Tail0Ideal.τ).loc Cert.Tail0Ideal.main_arg4)
      ∧ m' ((c.tc : Thread Cert.Tail0RefIdeal.nD Cert.Tail0RefIdeal.τ).loc Cert.Tail0RefIdeal.main_arg5) = m ((c.tc : Thread Cert.Tail0Ideal.nD Cert.Tail0Ideal.τ).loc Cert.Tail0Ideal.main_arg5)
      ∧ m' ((c.tc : Thread Cert.Tail0RefIdeal.nD Cert.Tail0RefIdeal.τ).loc Cert.Tail0RefIdeal.main_arg6) = m ((c.tc : Thread Cert.Tail0Ideal.nD Cert.Tail0Ideal.τ).loc Cert.Tail0Ideal.main_arg6)
      ∧ m' ((c.tc : Thread Cert.Tail0RefIdeal.nD Cert.Tail0RefIdeal.τ).loc Cert.Tail0RefIdeal.main_arg7) = m ((c.tc : Thread Cert.Tail0Ideal.nD Cert.Tail0Ideal.τ).loc Cert.Tail0Ideal.main_arg7)
      ∧ m' ((c.tc : Thread Cert.Tail0RefIdeal.nD Cert.Tail0RefIdeal.τ).loc Cert.Tail0RefIdeal.main_arg8) = m ((c.tc : Thread Cert.Tail0Ideal.nD Cert.Tail0Ideal.τ).loc Cert.Tail0Ideal.main_arg8)
      ∧ m' ((c.tc : Thread Cert.Tail0RefIdeal.nD Cert.Tail0RefIdeal.τ).loc Cert.Tail0RefIdeal.main_arg9) = m ((c.tc : Thread Cert.Tail0Ideal.nD Cert.Tail0Ideal.τ).loc Cert.Tail0Ideal.main_arg9)
      ∧ m' ((c.tc : Thread Cert.Tail0RefIdeal.nD Cert.Tail0RefIdeal.τ).loc Cert.Tail0RefIdeal.main_arg10) = m ((c.tc : Thread Cert.Tail0Ideal.nD Cert.Tail0Ideal.τ).loc Cert.Tail0Ideal.main_arg10)
      ∧ m' ((c.tc : Thread Cert.Tail0RefIdeal.nD Cert.Tail0RefIdeal.τ).loc Cert.Tail0RefIdeal.main_arg11) = m ((c.tc : Thread Cert.Tail0Ideal.nD Cert.Tail0Ideal.τ).loc Cert.Tail0Ideal.main_arg11)
      ∧ m' ((c.tc : Thread Cert.Tail0RefIdeal.nD Cert.Tail0RefIdeal.τ).loc Cert.Tail0RefIdeal.main_arg12) = m ((c.tc : Thread Cert.Tail0Ideal.nD Cert.Tail0Ideal.τ).loc Cert.Tail0Ideal.main_arg12)
      ∧ m' ((c.tc : Thread Cert.Tail0RefIdeal.nD Cert.Tail0RefIdeal.τ).loc Cert.Tail0RefIdeal.main_arg13) = m ((c.tc : Thread Cert.Tail0Ideal.nD Cert.Tail0Ideal.τ).loc Cert.Tail0Ideal.main_arg13)
      ∧ m' ((c.tc : Thread Cert.Tail0RefIdeal.nD Cert.Tail0RefIdeal.τ).loc Cert.Tail0RefIdeal.main_arg14) = m ((c.tc : Thread Cert.Tail0Ideal.nD Cert.Tail0Ideal.τ).loc Cert.Tail0Ideal.main_arg14)
      ∧ m' ((c.tc : Thread Cert.Tail0RefIdeal.nD Cert.Tail0RefIdeal.τ).loc Cert.Tail0RefIdeal.main_arg15) = m ((c.tc : Thread Cert.Tail0Ideal.nD Cert.Tail0Ideal.τ).loc Cert.Tail0Ideal.main_arg15)) →
    ∃ (v0 : (c : Dev Cert.Tail0Ideal.nD) → Buf (Elt Ideal) ((c.tc : Thread Cert.Tail0Ideal.nD Cert.Tail0Ideal.τ).loc Cert.Tail0Ideal.main_v19)),
      θ_run (Cert.Tail0Ideal.defs (F := Ideal)) (onTc (τ := Cert.Tail0Ideal.τ) (Cert.Tail0Ideal.main (F := Ideal))) ⟨m, fun _ => 0, g⟩ (fun r => ∀ c : Dev Cert.Tail0Ideal.nD,
          r.2.mem ((c.tc : Thread Cert.Tail0Ideal.nD Cert.Tail0Ideal.τ).loc Cert.Tail0Ideal.main_v19) = v0 c
          ∧ r.2.mem ((c.tc : Thread Cert.Tail0Ideal.nD Cert.Tail0Ideal.τ).loc Cert.Tail0Ideal.main_arg0) = m ((c.tc : Thread Cert.Tail0Ideal.nD Cert.Tail0Ideal.τ).loc Cert.Tail0Ideal.main_arg0)
          ∧ r.2.mem ((c.tc : Thread Cert.Tail0Ideal.nD Cert.Tail0Ideal.τ).loc Cert.Tail0Ideal.main_arg1) = m ((c.tc : Thread Cert.Tail0Ideal.nD Cert.Tail0Ideal.τ).loc Cert.Tail0Ideal.main_arg1)
          ∧ r.2.mem ((c.tc : Thread Cert.Tail0Ideal.nD Cert.Tail0Ideal.τ).loc Cert.Tail0Ideal.main_arg2) = m ((c.tc : Thread Cert.Tail0Ideal.nD Cert.Tail0Ideal.τ).loc Cert.Tail0Ideal.main_arg2)
          ∧ r.2.mem ((c.tc : Thread Cert.Tail0Ideal.nD Cert.Tail0Ideal.τ).loc Cert.Tail0Ideal.main_arg3) = m ((c.tc : Thread Cert.Tail0Ideal.nD Cert.Tail0Ideal.τ).loc Cert.Tail0Ideal.main_arg3)
          ∧ r.2.mem ((c.tc : Thread Cert.Tail0Ideal.nD Cert.Tail0Ideal.τ).loc Cert.Tail0Ideal.main_arg4) = m ((c.tc : Thread Cert.Tail0Ideal.nD Cert.Tail0Ideal.τ).loc Cert.Tail0Ideal.main_arg4)
          ∧ r.2.mem ((c.tc : Thread Cert.Tail0Ideal.nD Cert.Tail0Ideal.τ).loc Cert.Tail0Ideal.main_arg5) = m ((c.tc : Thread Cert.Tail0Ideal.nD Cert.Tail0Ideal.τ).loc Cert.Tail0Ideal.main_arg5)
          ∧ r.2.mem ((c.tc : Thread Cert.Tail0Ideal.nD Cert.Tail0Ideal.τ).loc Cert.Tail0Ideal.main_arg6) = m ((c.tc : Thread Cert.Tail0Ideal.nD Cert.Tail0Ideal.τ).loc Cert.Tail0Ideal.main_arg6)
          ∧ r.2.mem ((c.tc : Thread Cert.Tail0Ideal.nD Cert.Tail0Ideal.τ).loc Cert.Tail0Ideal.main_arg7) = m ((c.tc : Thread Cert.Tail0Ideal.nD Cert.Tail0Ideal.τ).loc Cert.Tail0Ideal.main_arg7)
          ∧ r.2.mem ((c.tc : Thread Cert.Tail0Ideal.nD Cert.Tail0Ideal.τ).loc Cert.Tail0Ideal.main_arg8) = m ((c.tc : Thread Cert.Tail0Ideal.nD Cert.Tail0Ideal.τ).loc Cert.Tail0Ideal.main_arg8)
          ∧ r.2.mem ((c.tc : Thread Cert.Tail0Ideal.nD Cert.Tail0Ideal.τ).loc Cert.Tail0Ideal.main_arg9) = m ((c.tc : Thread Cert.Tail0Ideal.nD Cert.Tail0Ideal.τ).loc Cert.Tail0Ideal.main_arg9)
          ∧ r.2.mem ((c.tc : Thread Cert.Tail0Ideal.nD Cert.Tail0Ideal.τ).loc Cert.Tail0Ideal.main_arg10) = m ((c.tc : Thread Cert.Tail0Ideal.nD Cert.Tail0Ideal.τ).loc Cert.Tail0Ideal.main_arg10)
          ∧ r.2.mem ((c.tc : Thread Cert.Tail0Ideal.nD Cert.Tail0Ideal.τ).loc Cert.Tail0Ideal.main_arg11) = m ((c.tc : Thread Cert.Tail0Ideal.nD Cert.Tail0Ideal.τ).loc Cert.Tail0Ideal.main_arg11)
          ∧ r.2.mem ((c.tc : Thread Cert.Tail0Ideal.nD Cert.Tail0Ideal.τ).loc Cert.Tail0Ideal.main_arg12) = m ((c.tc : Thread Cert.Tail0Ideal.nD Cert.Tail0Ideal.τ).loc Cert.Tail0Ideal.main_arg12)
          ∧ r.2.mem ((c.tc : Thread Cert.Tail0Ideal.nD Cert.Tail0Ideal.τ).loc Cert.Tail0Ideal.main_arg13) = m ((c.tc : Thread Cert.Tail0Ideal.nD Cert.Tail0Ideal.τ).loc Cert.Tail0Ideal.main_arg13)
          ∧ r.2.mem ((c.tc : Thread Cert.Tail0Ideal.nD Cert.Tail0Ideal.τ).loc Cert.Tail0Ideal.main_arg14) = m ((c.tc : Thread Cert.Tail0Ideal.nD Cert.Tail0Ideal.τ).loc Cert.Tail0Ideal.main_arg14)
          ∧ r.2.mem ((c.tc : Thread Cert.Tail0Ideal.nD Cert.Tail0Ideal.τ).loc Cert.Tail0Ideal.main_arg15) = m ((c.tc : Thread Cert.Tail0Ideal.nD Cert.Tail0Ideal.τ).loc Cert.Tail0Ideal.main_arg15))
      ∧ θ_run (Cert.Tail0RefIdeal.defs (F := Ideal)) (onTc (τ := Cert.Tail0RefIdeal.τ) (Cert.Tail0RefIdeal.main (F := Ideal))) ⟨m', fun _ => 0, g'⟩ (fun r => ∀ c : Dev Cert.Tail0RefIdeal.nD,
          r.2.mem ((c.tc : Thread Cert.Tail0RefIdeal.nD Cert.Tail0RefIdeal.τ).loc Cert.Tail0RefIdeal.main_v107) = v0 c
          ∧ r.2.mem ((c.tc : Thread Cert.Tail0RefIdeal.nD Cert.Tail0RefIdeal.τ).loc Cert.Tail0RefIdeal.main_arg0) = m' ((c.tc : Thread Cert.Tail0RefIdeal.nD Cert.Tail0RefIdeal.τ).loc Cert.Tail0RefIdeal.main_arg0)
          ∧ r.2.mem ((c.tc : Thread Cert.Tail0RefIdeal.nD Cert.Tail0RefIdeal.τ).loc Cert.Tail0RefIdeal.main_arg1) = m' ((c.tc : Thread Cert.Tail0RefIdeal.nD Cert.Tail0RefIdeal.τ).loc Cert.Tail0RefIdeal.main_arg1)
          ∧ r.2.mem ((c.tc : Thread Cert.Tail0RefIdeal.nD Cert.Tail0RefIdeal.τ).loc Cert.Tail0RefIdeal.main_arg2) = m' ((c.tc : Thread Cert.Tail0RefIdeal.nD Cert.Tail0RefIdeal.τ).loc Cert.Tail0RefIdeal.main_arg2)
          ∧ r.2.mem ((c.tc : Thread Cert.Tail0RefIdeal.nD Cert.Tail0RefIdeal.τ).loc Cert.Tail0RefIdeal.main_arg3) = m' ((c.tc : Thread Cert.Tail0RefIdeal.nD Cert.Tail0RefIdeal.τ).loc Cert.Tail0RefIdeal.main_arg3)
          ∧ r.2.mem ((c.tc : Thread Cert.Tail0RefIdeal.nD Cert.Tail0RefIdeal.τ).loc Cert.Tail0RefIdeal.main_arg4) = m' ((c.tc : Thread Cert.Tail0RefIdeal.nD Cert.Tail0RefIdeal.τ).loc Cert.Tail0RefIdeal.main_arg4)
          ∧ r.2.mem ((c.tc : Thread Cert.Tail0RefIdeal.nD Cert.Tail0RefIdeal.τ).loc Cert.Tail0RefIdeal.main_arg5) = m' ((c.tc : Thread Cert.Tail0RefIdeal.nD Cert.Tail0RefIdeal.τ).loc Cert.Tail0RefIdeal.main_arg5)
          ∧ r.2.mem ((c.tc : Thread Cert.Tail0RefIdeal.nD Cert.Tail0RefIdeal.τ).loc Cert.Tail0RefIdeal.main_arg6) = m' ((c.tc : Thread Cert.Tail0RefIdeal.nD Cert.Tail0RefIdeal.τ).loc Cert.Tail0RefIdeal.main_arg6)
          ∧ r.2.mem ((c.tc : Thread Cert.Tail0RefIdeal.nD Cert.Tail0RefIdeal.τ).loc Cert.Tail0RefIdeal.main_arg7) = m' ((c.tc : Thread Cert.Tail0RefIdeal.nD Cert.Tail0RefIdeal.τ).loc Cert.Tail0RefIdeal.main_arg7)
          ∧ r.2.mem ((c.tc : Thread Cert.Tail0RefIdeal.nD Cert.Tail0RefIdeal.τ).loc Cert.Tail0RefIdeal.main_arg8) = m' ((c.tc : Thread Cert.Tail0RefIdeal.nD Cert.Tail0RefIdeal.τ).loc Cert.Tail0RefIdeal.main_arg8)
          ∧ r.2.mem ((c.tc : Thread Cert.Tail0RefIdeal.nD Cert.Tail0RefIdeal.τ).loc Cert.Tail0RefIdeal.main_arg9) = m' ((c.tc : Thread Cert.Tail0RefIdeal.nD Cert.Tail0RefIdeal.τ).loc Cert.Tail0RefIdeal.main_arg9)
          ∧ r.2.mem ((c.tc : Thread Cert.Tail0RefIdeal.nD Cert.Tail0RefIdeal.τ).loc Cert.Tail0RefIdeal.main_arg10) = m' ((c.tc : Thread Cert.Tail0RefIdeal.nD Cert.Tail0RefIdeal.τ).loc Cert.Tail0RefIdeal.main_arg10)
          ∧ r.2.mem ((c.tc : Thread Cert.Tail0RefIdeal.nD Cert.Tail0RefIdeal.τ).loc Cert.Tail0RefIdeal.main_arg11) = m' ((c.tc : Thread Cert.Tail0RefIdeal.nD Cert.Tail0RefIdeal.τ).loc Cert.Tail0RefIdeal.main_arg11)
          ∧ r.2.mem ((c.tc : Thread Cert.Tail0RefIdeal.nD Cert.Tail0RefIdeal.τ).loc Cert.Tail0RefIdeal.main_arg12) = m' ((c.tc : Thread Cert.Tail0RefIdeal.nD Cert.Tail0RefIdeal.τ).loc Cert.Tail0RefIdeal.main_arg12)
          ∧ r.2.mem ((c.tc : Thread Cert.Tail0RefIdeal.nD Cert.Tail0RefIdeal.τ).loc Cert.Tail0RefIdeal.main_arg13) = m' ((c.tc : Thread Cert.Tail0RefIdeal.nD Cert.Tail0RefIdeal.τ).loc Cert.Tail0RefIdeal.main_arg13)
          ∧ r.2.mem ((c.tc : Thread Cert.Tail0RefIdeal.nD Cert.Tail0RefIdeal.τ).loc Cert.Tail0RefIdeal.main_arg14) = m' ((c.tc : Thread Cert.Tail0RefIdeal.nD Cert.Tail0RefIdeal.τ).loc Cert.Tail0RefIdeal.main_arg14)
          ∧ r.2.mem ((c.tc : Thread Cert.Tail0RefIdeal.nD Cert.Tail0RefIdeal.τ).loc Cert.Tail0RefIdeal.main_arg15) = m' ((c.tc : Thread Cert.Tail0RefIdeal.nD Cert.Tail0RefIdeal.τ).loc Cert.Tail0RefIdeal.main_arg15))

def Claim : Prop :=
  ∃ (hDiff : Cert.Diff.Facts) (hDiffIdeal : Cert.DiffIdeal.Facts) (hDiffRefIdeal : Cert.DiffRefIdeal.Facts) (hTail : Cert.Tail.Facts) (hTailIdeal : Cert.TailIdeal.Facts) (hTailRefIdeal : Cert.TailRefIdeal.Facts) (hTail0 : Cert.Tail0.Facts) (hTail0Ideal : Cert.Tail0Ideal.Facts) (hTail0RefIdeal : Cert.Tail0RefIdeal.Facts) (hPre_finite : Cert.Pre_finite.Facts),
    quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Tail (hTail := hTail)
    ∧ quiescent_TailIdeal (hTailIdeal := hTailIdeal)
    ∧ quiescent_TailRefIdeal (hTailRefIdeal := hTailRefIdeal)
    ∧ quiescent_Tail0 (hTail0 := hTail0)
    ∧ quiescent_Tail0Ideal (hTail0Ideal := hTail0Ideal)
    ∧ quiescent_Tail0RefIdeal (hTail0RefIdeal := hTail0RefIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_Tail_TailIdeal
    ∧ algebraic_TailIdeal_TailRefIdeal (hTailIdeal := hTailIdeal) (hTailRefIdeal := hTailRefIdeal)
    ∧ preserves_Tail0_Tail0Ideal
    ∧ algebraic_Tail0Ideal_Tail0RefIdeal (hTail0Ideal := hTail0Ideal) (hTail0RefIdeal := hTail0RefIdeal)
-- ==== Pre_finite.lean ====
abbrev S4x64 : Shape := ⟨2, ![4, 64]⟩
abbrev S128 : Shape := ⟨1, ![128]⟩
abbrev S16x2048x1024 : Shape := ⟨3, ![16, 2048, 1024]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn_part1 {F : FTy → Type} [FloatOps F] (main_v13 : IVec S_ 1) (main_v16 : IVec S16x2048x1024 1) : IVec S_ 1 :=
  let main_c_5 : IVec S_ 1 := constantI S_ 1 1#1
  let main_v17 : IVec S_ 1 := (fun x v => Host.reduce IntOp.andi x v reducesTo_S16x2048x1024_S_d0_1_2 h_S_) main_v16 main_c_5
  let main_v18 : IVec S_ 1 := andi main_v13 main_v17
  main_v18

def fn {F : FTy → Type} [FloatOps F] (main_arg0 : FVec F S4x64 .f32) (main_arg1 : FVec F S128 .f32) (main_arg2 : FVec F S16x2048x1024 .f32) (main_arg3 : FVec F S16x2048x1024 .f32) (main_arg4 : FVec F S16x2048x1024 .f32) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S16x2048x1024 .f32 := Host.absf main_arg2
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048x1024 .f32 := Host.absf main_arg3
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  let main_v14 : FVec F S16x2048x1024 .f32 := Host.absf main_arg4
  let main_cst_4 : FVec F S_ .f32 := constant S_ .f32 0x7F800000#32
  let main_v15 : FVec F S16x2048x1024 .f32 := broadcastInDim S16x2048x1024 ![] bcast_S_S16x2048x1024 main_cst_4
  let main_v16 : IVec S16x2048x1024 1 := cmpf .olt main_v14 main_v15
  fn_part1 (F := F) main_v13 main_v16
-- ==== Diff.lean ====
abbrev S4x64 : Shape := ⟨2, ![4, 64]⟩
abbrev S128 : Shape := ⟨1, ![128]⟩
abbrev S16x2048x1024 : Shape := ⟨3, ![16, 2048, 1024]⟩
abbrev S_ : Shape := ⟨0, ![]⟩
abbrev S1x128 : Shape := ⟨2, ![1, 128]⟩
abbrev S32768x1024 : Shape := ⟨2, ![32768, 1024]⟩
abbrev S1x2048x128 : Shape := ⟨3, ![1, 2048, 128]⟩
abbrev S2048x256 : Shape := ⟨2, ![2048, 256]⟩
abbrev S1x64 : Shape := ⟨2, ![1, 64]⟩
abbrev S1 : Shape := ⟨1, ![1]⟩
abbrev S1x1 : Shape := ⟨2, ![1, 1]⟩
abbrev S2048x128 : Shape := ⟨2, ![2048, 128]⟩
abbrev S1x256x128 : Shape := ⟨3, ![1, 256, 128]⟩
abbrev S256x128 : Shape := ⟨2, ![256, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S256 : Shape := ⟨1, ![256]⟩
abbrev S256x1 : Shape := ⟨2, ![256, 1]⟩

abbrev nBuf : Space → Nat
  | .hbm => 22
  | .vmem => 11
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x1024, .f32⟩
  | .hbm, ⟨10, _⟩ => ⟨S16x2048x1024, .f32⟩
  | .hbm, ⟨11, _⟩ => ⟨S16x2048x1024, .bf16⟩
  | .hbm, ⟨12, _⟩ => ⟨S1x128, .f32⟩
  | .hbm, ⟨13, _⟩ => ⟨S32768x1024, .bf16⟩
  | .hbm, ⟨14, _⟩ => ⟨S16x2048x1024, .bf16⟩
  | .hbm, ⟨15, _⟩ => ⟨S32768x1024, .bf16⟩
  | .hbm, ⟨16, _⟩ => ⟨S16x2048x1024, .bf16⟩
  | .hbm, ⟨17, _⟩ => ⟨S32768x1024, .bf16⟩
  | .hbm, ⟨18, _⟩ => ⟨S16x2048x1024, .bf16⟩
  | .hbm, ⟨19, _⟩ => ⟨S16x2048x1024, .bf16⟩
  | .hbm, ⟨20, _⟩ => ⟨S16x2048x1024, .bf16⟩
  | .hbm, ⟨21, _⟩ => ⟨S16x2048x1024, .bf16⟩
  | .local _ .vmem, ⟨0, _⟩ => ⟨S4x64, .f32⟩
  | .local _ .vmem, ⟨1, _⟩ => ⟨S1x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S2048x256, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  let c256_i32 : BitVec 32 := 256#32
  let v32 : BitVec 32 := Scalar.muli c0_i32 c256_i32
  v32
def k0_off1 (c0_i32 : BitVec 32) : Fin 3 → Nat :=
  let c0_13 : Index := 0#32
  let c256_i32 : BitVec 32 := 256#32
  let v32 : BitVec 32 := Scalar.muli c0_i32 c256_i32
  let v33 : BitVec 32 := v32
  let v34 : Index := Scalar.indexCast v33
  let c0_14 : Index := 0#32
  ![0, v34.toNat, 0]
def k0_mult2 : BitVec 32 :=
  let c1_i32 : BitVec 32 := 1#32
  let c256_i32_29 : BitVec 32 := 256#32
  let v82 : BitVec 32 := Scalar.muli c1_i32 c256_i32_29
  v82
def k0_mult3 : BitVec 32 :=
  let c2_i32 : BitVec 32 := 2#32
  let c256_i32_46 : BitVec 32 := 256#32
  let v132 : BitVec 32 := Scalar.muli c2_i32 c256_i32_46
  v132
def k0_mult4 : BitVec 32 :=
  let c3_i32 : BitVec 32 := 3#32
  let c256_i32_63 : BitVec 32 := 256#32
  let v182 : BitVec 32 := Scalar.muli c3_i32 c256_i32_63
  v182
def k0_mult5 : BitVec 32 :=
  let c4_i32 : BitVec 32 := 4#32
  let c256_i32_80 : BitVec 32 := 256#32
  let v232 : BitVec 32 := Scalar.muli c4_i32 c256_i32_80
  v232
def k0_mult6 : BitVec 32 :=
  let c5_i32 : BitVec 32 := 5#32
  let c256_i32_97 : BitVec 32 := 256#32
  let v282 : BitVec 32 := Scalar.muli c5_i32 c256_i32_97
  v282
def k0_mult7 : BitVec 32 :=
  let c6_i32 : BitVec 32 := 6#32
  let c256_i32_114 : BitVec 32 := 256#32
  let v332 : BitVec 32 := Scalar.muli c6_i32 c256_i32_114
  v332
def k0_mult8 : BitVec 32 :=
  let c7_i32 : BitVec 32 := 7#32
  let c256_i32_131 : BitVec 32 := 256#32
  let v382 : BitVec 32 := Scalar.muli c7_i32 c256_i32_131
  v382
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DiffRefIdeal.lean ====
abbrev S4x64 : Shape := ⟨2, ![4, 64]⟩
abbrev S128 : Shape := ⟨1, ![128]⟩
abbrev S16x2048x1024 : Shape := ⟨3, ![16, 2048, 1024]⟩
abbrev S16x2048x8x2x64 : Shape := ⟨5, ![16, 2048, 8, 2, 64]⟩
abbrev S16x2048x8x128 : Shape := ⟨4, ![16, 2048, 8, 128]⟩
abbrev S1x64 : Shape := ⟨2, ![1, 64]⟩
abbrev S64 : Shape := ⟨1, ![64]⟩
abbrev S_ : Shape := ⟨0, ![]⟩
abbrev S16x8x2x2048x2048 : Shape := ⟨5, ![16, 8, 2, 2048, 2048]⟩
abbrev S16x8x2x2048 : Shape := ⟨4, ![16, 8, 2, 2048]⟩
abbrev S16x8x2x2048x1 : Shape := ⟨5, ![16, 8, 2, 2048, 1]⟩
abbrev S16x8x1x2048x2048 : Shape := ⟨5, ![16, 8, 1, 2048, 2048]⟩
abbrev S16x8x2048x2048 : Shape := ⟨4, ![16, 8, 2048, 2048]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S16x2048x8x2x64, .f32⟩
  | .hbm, ⟨6, _⟩ => ⟨S16x2048x8x2x64, .f32⟩
  | .hbm, ⟨7, _⟩ => ⟨S16x2048x8x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x8x2x2048x2048, .f32⟩
  | .hbm, ⟨28, _⟩ => ⟨S_, .f32⟩
  | .hbm, ⟨29, _⟩ => ⟨S16x8x2x2048x2048, .f32⟩
  | .hbm, ⟨30, _⟩ => ⟨S16x8x2x2048x2048, .f32⟩
  | .hbm, ⟨31, _⟩ => ⟨S_, .f32⟩
  | .hbm, ⟨32, _⟩ => ⟨S16x8x2x2048, .f32⟩
  | .hbm, ⟨33, _⟩ => ⟨S_, .f32⟩
  | .hbm, ⟨34, _⟩ => ⟨S16x8x2x2048, .f32⟩
  | .hbm, ⟨35, _⟩ => ⟨S16x8x2x2048, .f32⟩
  | .hbm, ⟨36, _⟩ => ⟨S16x8x2x2048x1, .f32⟩
  | .hbm, ⟨37, _⟩ => ⟨S16x8x2x2048x2048, .f32⟩
  | .hbm, ⟨38, _⟩ => ⟨S16x8x2x2048x2048, .f32⟩
  | .hbm, ⟨39, _⟩ => ⟨S16x8x2x2048x2048, .f32⟩
  | .hbm, ⟨40, _⟩ => ⟨S_, .f32⟩
  | .hbm, ⟨41, _⟩ => ⟨S16x8x2x2048, .f32⟩
  | .hbm, ⟨42, _⟩ => ⟨S16x8x2x2048x1, .f32⟩
  | .hbm, ⟨43, _⟩ => ⟨S16x8x2x2048x2048, .f32⟩
  | .hbm, ⟨44, _⟩ => ⟨S16x8x2x2048x2048, .f32⟩
  | .hbm, ⟨45, _⟩ => ⟨S16x8x1x2048x2048, .f32⟩
  | .hbm, ⟨46, _⟩ => ⟨S16x8x2048x2048, .f32⟩
  | .hbm, ⟨47, _⟩ => ⟨S16x8x1x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .f32⟩
  | .hbm, ⟨52, _⟩ => ⟨S16x8x128x2048, .f32⟩
  | .hbm, ⟨53, _⟩ => ⟨S16x2048x8x128, .f32⟩
  | .hbm, ⟨54, _⟩ => ⟨S16x2048x8x128, .f32⟩
  | .hbm, ⟨55, _⟩ => ⟨S_, .f32⟩
  | .hbm, ⟨56, _⟩ => ⟨S16x2048x8, .f32⟩
  | .hbm, ⟨57, _⟩ => ⟨S16x2048x8x1, .f32⟩
  | .hbm, ⟨58, _⟩ => ⟨S_, .f32⟩
  | .hbm, ⟨59, _⟩ => ⟨S16x2048x8x1, .f32⟩
  | .hbm, ⟨60, _⟩ => ⟨S16x2048x8x1, .f32⟩
  | .hbm, ⟨61, _⟩ => ⟨S_, .f32⟩
  | .hbm, ⟨62, _⟩ => ⟨S16x2048x8x1, .f32⟩
  | .hbm, ⟨63, _⟩ => ⟨S16x2048x8x1, .f32⟩
  | .hbm, ⟨64, _⟩ => ⟨S16x2048x8x1, .f32⟩
  | .hbm, ⟨65, _⟩ => ⟨S16x2048x8x128, .f32⟩
  | .hbm, ⟨66, _⟩ => ⟨S16x2048x8x128, .f32⟩
  | .hbm, ⟨67, _⟩ => ⟨S1x1x1x128, .f32⟩
  | .hbm, ⟨68, _⟩ => ⟨S16x2048x8x128, .f32⟩
  | .hbm, ⟨69, _⟩ => ⟨S16x2048x8x128, .f32⟩
  | .hbm, ⟨70, _⟩ => ⟨S_, .f32⟩
  | .hbm, ⟨71, _⟩ => ⟨S16x2048x8x128, .f32⟩
  | .hbm, ⟨72, _⟩ => ⟨S16x2048x8x128, .f32⟩
  | .hbm, ⟨73, _⟩ => ⟨S16x2048x1024, .f32⟩
  | .hbm, ⟨74, _⟩ => ⟨S16x2048x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Tail.lean ====
abbrev S16x2048x1024 : Shape := ⟨3, ![16, 2048, 1024]⟩
abbrev S1024x1024 : Shape := ⟨2, ![1024, 1024]⟩
abbrev S1024 : Shape := ⟨1, ![1024]⟩
abbrev S16x2048x256 : Shape := ⟨3, ![16, 2048, 256]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S32768x1024 : Shape := ⟨2, ![32768, 1024]⟩
abbrev S1x1024 : Shape := ⟨2, ![1, 1024]⟩
abbrev S32768x256 : Shape := ⟨2, ![32768, 256]⟩
abbrev S1x2816 : Shape := ⟨2, ![1, 2816]⟩
abbrev S16x1024 : Shape := ⟨2, ![16, 1024]⟩
abbrev S1024x256 : Shape := ⟨2, ![1024, 256]⟩
abbrev S1056x1024 : Shape := ⟨2, ![1056, 1024]⟩
abbrev S1056 : Shape := ⟨1, ![1056]⟩
abbrev S1056x1 : Shape := ⟨2, ![1056, 1]⟩
abbrev S1056x256 : Shape := ⟨2, ![1056, 256]⟩
abbrev S3x256 : Shape := ⟨2, ![3, 256]⟩
abbrev S1x256 : Shape := ⟨2, ![1, 256]⟩
abbrev S1024x1 : Shape := ⟨2, ![1024, 1]⟩

abbrev nBuf : Space → Nat
  | .hbm => 31
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16x2048x256, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S256x1024, .f32⟩
  | .hbm, ⟨15, _⟩ => ⟨S32768x1024, .f32⟩
  | .hbm, ⟨16, _⟩ => ⟨S16x2048x1024, .bf16⟩
  | .hbm, ⟨17, _⟩ => ⟨S32768x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S32768x256, .f32⟩
  | .hbm, ⟨22, _⟩ => ⟨S1024x2816, .bf16⟩
  | .hbm, ⟨23, _⟩ => ⟨S1024x2816, .bf16⟩
  | .hbm, ⟨24, _⟩ => ⟨S1x2816, .f32⟩
  | .hbm, ⟨25, _⟩ => ⟨S2816x1024, .bf16⟩
  | .hbm, ⟨26, _⟩ => ⟨S1x1024, .f32⟩
  | .hbm, ⟨27, _⟩ => ⟨S1x1024, .f32⟩
  | .hbm, ⟨28, _⟩ => ⟨S1024x1024, .bf16⟩
  | .hbm, ⟨29, _⟩ => ⟨S256x1024, .bf16⟩
  | .hbm, ⟨30, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x256, .f32⟩
  | .local _ .vmem, ⟨16, _⟩ => ⟨S1024x256, .f32⟩
  | .local _ .vmem, ⟨17, _⟩ => ⟨S1024x2816, .bf16⟩
  | .local _ .vmem, ⟨18, _⟩ => ⟨S1024x2816, .bf16⟩
  | .local _ .vmem, ⟨19, _⟩ => ⟨S3x2816, .f32⟩
  | .local _ .vmem, ⟨20, _⟩ => ⟨S1x2816, .f32⟩
  | .local _ .vmem, ⟨21, _⟩ => ⟨S2816x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S256x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== TailRefIdeal.lean ====
abbrev S16x2048x1024 : Shape := ⟨3, ![16, 2048, 1024]⟩
abbrev S1024x1024 : Shape := ⟨2, ![1024, 1024]⟩
abbrev S1024 : Shape := ⟨1, ![1024]⟩
abbrev S16x2048x256 : Shape := ⟨3, ![16, 2048, 256]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 142
  | .vmem => 0
  | .smem => 0
  | _ => 0

abbrev hbmTy0_0 (i : Nat) : BufTy := match i % 128 with
  | 0 => ⟨S16x2048x1024, .f32⟩
  | 1 => ⟨S16x2048x1024, .f32⟩
  | 2 => ⟨S1024x1024, .f32⟩
  | 3 => ⟨S1024, .f32⟩
  | 4 => ⟨S1024, .f32⟩
  | 5 => ⟨S16x2048x256, .f32⟩
  | 6 => ⟨S1024x2816, .f32⟩
  | 7 => ⟨S1024x2816, .f32⟩
  | 8 => ⟨S3x2816, .f32⟩
  | 9 => ⟨S2816, .f32⟩
  | 10 => ⟨S2816x1024, .f32⟩
  | 11 => ⟨S1024, .f32⟩
  | 12 => ⟨S1024, .f32⟩
  | 13 => ⟨S1024x1024, .f32⟩
  | 14 => ⟨S256x1024, .f32⟩
  | 15 => ⟨S_, .f32⟩
  | 16 => ⟨S16x2048x1024, .f32⟩
  | 17 => ⟨S16x2048x1024, .f32⟩
  | 18 => ⟨S16x2048x1024, .f32⟩
  | 19 => ⟨S16x2048x1024, .f32⟩
  | 20 => ⟨S_, .f32⟩
  | 21 => ⟨S16x2048, .f32⟩
  | 22 => ⟨S16x2048x1, .f32⟩
  | 23 => ⟨S_, .f32⟩
  | 24 => ⟨S16x2048x1, .f32⟩
  | 25 => ⟨S16x2048x1, .f32⟩
  | 26 => ⟨S16x2048x1024, .f32⟩
  | 27 => ⟨S16x2048x1024, .f32⟩
  | 28 => ⟨S16x2048x1024, .f32⟩
  | 29 => ⟨S_, .f32⟩
  | 30 => ⟨S16x2048, .f32⟩
  | 31 => ⟨S16x2048x1, .f32⟩
  | 32 => ⟨S_, .f32⟩
  | 33 => ⟨S16x2048x1, .f32⟩
  | 34 => ⟨S16x2048x1, .f32⟩
  | 35 => ⟨S16x2048x1024, .f32⟩
  | 36 => ⟨S16x2048x1024, .f32⟩
  | 37 => ⟨S_, .f32⟩
  | 38 => ⟨S16x2048x1, .f32⟩
  | 39 => ⟨S16x2048x1, .f32⟩
  | 40 => ⟨S16x2048x1, .f32⟩
  | 41 => ⟨S16x2048x1024, .f32⟩
  | 42 => ⟨S16x2048x1024, .f32⟩
  | 43 => ⟨S1x1x1024, .f32⟩
  | 44 => ⟨S16x2048x1024, .f32⟩
  | 45 => ⟨S16x2048x1024, .f32⟩
  | 46 => ⟨S1x1x1024, .f32⟩
  | 47 => ⟨S16x2048x1024, .f32⟩
  | 48 => ⟨S16x2048x1024, .f32⟩
  | 49 => ⟨S_, .f32⟩
  | 50 => ⟨S16x2048x1024, .f32⟩
  | 51 => ⟨S16x2048x1024, .f32⟩
  | 52 => ⟨S16x2048x2816, .f32⟩
  | 53 => ⟨S16x2048x2816, .f32⟩
  | 54 => ⟨S_, .i32⟩
  | 55 => ⟨S_, .f32⟩
  | 56 => ⟨S16x2050x2816, .f32⟩
  | 57 => ⟨S1x2816, .f32⟩
  | 58 => ⟨S2816, .f32⟩
  | 59 => ⟨S16x2048x2816, .f32⟩
  | 60 => ⟨S1x1x2816, .f32⟩
  | 61 => ⟨S16x2048x2816, .f32⟩
  | 62 => ⟨S16x2048x2816, .f32⟩
  | 63 => ⟨S1x1x2816, .f32⟩
  | 64 => ⟨S16x2048x2816, .f32⟩
  | 65 => ⟨S16x2048x2816, .f32⟩
  | 66 => ⟨S1x2816, .f32⟩
  | 67 => ⟨S2816, .f32⟩
  | 68 => ⟨S16x2048x2816, .f32⟩
  | 69 => ⟨S1x1x2816, .f32⟩
  | 70 => ⟨S16x2048x2816, .f32⟩
  | 71 => ⟨S16x2048x2816, .f32⟩
  | 72 => ⟨S16x2048x2816, .f32⟩
  | 73 => ⟨S1x2816, .f32⟩
  | 74 => ⟨S2816, .f32⟩
  | 75 => ⟨S16x2048x2816, .f32⟩
  | 76 => ⟨S1x1x2816, .f32⟩
  | 77 => ⟨S16x2048x2816, .f32⟩
  | 78 => ⟨S16x2048x2816, .f32⟩
  | 79 => ⟨S16x2048x2816, .f32⟩
  | 80 => ⟨S16x2048x2816, .f32⟩
  | 81 => ⟨S16x2048x2816, .f32⟩
  | 82 => ⟨S_, .f32⟩
  | 83 => ⟨S16x2048x2816, .f32⟩
  | 84 => ⟨S16x2048x2816, .f32⟩
  | 85 => ⟨S16x2048x2816, .f32⟩
  | 86 => ⟨S_, .f32⟩
  | 87 => ⟨S16x2048x2816, .f32⟩
  | 88 => ⟨S16x2048x2816, .f32⟩
  | 89 => ⟨S16x2048x2816, .f32⟩
  | 90 => ⟨S_, .f32⟩
  | 91 => ⟨S16x2048x2816, .f32⟩
  | 92 => ⟨S16x2048x2816, .f32⟩
  | 93 => ⟨S_, .f32⟩
  | 94 => ⟨S16x2048x2816, .f32⟩
  | 95 => ⟨S16x2048x2816, .f32⟩
  | 96 => ⟨S16x2048x2816, .f32⟩
  | 97 => ⟨S16x2048x2816, .f32⟩
  | 98 => ⟨S16x2048x1024, .f32⟩
  | 99 => ⟨S16x2048x1024, .f32⟩
  | 100 => ⟨S_, .f32⟩
  | 101 => ⟨S16x2048, .f32⟩
  | 102 => ⟨S16x2048x1, .f32⟩
  | 103 => ⟨S_, .f32⟩
  | 104 => ⟨S16x2048x1, .f32⟩
  | 105 => ⟨S16x2048x1, .f32⟩
  | 106 => ⟨S16x2048x1024, .f32⟩
  | 107 => ⟨S16x2048x1024, .f32⟩
  | 108 => ⟨S16x2048x1024, .f32⟩
  | 109 => ⟨S_, .f32⟩
  | 110 => ⟨S16x2048, .f32⟩
  | 111 => ⟨S16x2048x1, .f32⟩
  | 112 => ⟨S_, .f32⟩
  | 113 => ⟨S16x2048x1, .f32⟩
  | 114 => ⟨S16x2048x1, .f32⟩
  | 115 => ⟨S16x2048x1024, .f32⟩
  | 116 => ⟨S16x2048x1024, .f32⟩
  | 117 => ⟨S_, .f32⟩
  | 118 => ⟨S16x2048x1, .f32⟩
  | 119 => ⟨S16x2048x1, .f32⟩
  | 120 => ⟨S16x2048x1, .f32⟩
  | 121 => ⟨S16x2048x1024, .f32⟩
  | 122 => ⟨S16x2048x1024, .f32⟩
  | 123 => ⟨S1x1x1024, .f32⟩
  | 124 => ⟨S16x2048x1024, .f32⟩
  | 125 => ⟨S16x2048x1024, .f32⟩
  | 126 => ⟨S1x1x1024, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S16x2048x1024, .f32⟩
  | 3 => ⟨S16x2048x1024, .f32⟩
  | 4 => ⟨S_, .f32⟩
  | 5 => ⟨S16x2048x1024, .f32⟩
  | 6 => ⟨S16x2048x1024, .f32⟩
  | 7 => ⟨S_, .f32⟩
  | 8 => ⟨S16x2048x1024, .f32⟩
  | 9 => ⟨S16x2048x1024, .f32⟩
  | 10 => ⟨S16x2048x1024, .f32⟩
  | 11 => ⟨S16x2048x1024, .f32⟩
  | 12 => ⟨S16x2048x1024, .f32⟩
  | 13 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_7 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_cst_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_14 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_15 : Ref sig .tc := ⟨.hbm, 132, rfl⟩
abbrev main_v99 : Ref sig .tc := ⟨.hbm, 133, rfl⟩
abbrev main_v100 : Ref sig .tc := ⟨.hbm, 134, rfl⟩
abbrev main_cst_16 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Tail0.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S16x2048x256 : Shape := ⟨3, ![16, 2048, 256]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S32768x256 : Shape := ⟨2, ![32768, 256]⟩
abbrev S1x2816 : Shape := ⟨2, ![1, 2816]⟩
abbrev S16x1024 : Shape := ⟨2, ![16, 1024]⟩
abbrev S1024x512 : Shape := ⟨2, ![1024, 512]⟩
abbrev S16x512 : Shape := ⟨2, ![16, 512]⟩
abbrev S1024x256 : Shape := ⟨2, ![1024, 256]⟩
abbrev S1056x512 : Shape := ⟨2, ![1056, 512]⟩
abbrev S1056x1024 : Shape := ⟨2, ![1056, 1024]⟩
abbrev S1056 : Shape := ⟨1, ![1056]⟩
abbrev S1056x1 : Shape := ⟨2, ![1056, 1]⟩
abbrev S1056x256 : Shape := ⟨2, ![1056, 256]⟩
abbrev S3x256 : Shape := ⟨2, ![3, 256]⟩
abbrev S1x256 : Shape := ⟨2, ![1, 256]⟩
abbrev S1024x1 : Shape := ⟨2, ![1024, 1]⟩

abbrev nBuf : Space → Nat
  | .hbm => 36
  | .vmem => 36
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16x2048x256, .f32⟩
  | .hbm, ⟨7, _⟩ => ⟨S1024x2816, .f32⟩
  | .hbm, ⟨8, _⟩ => ⟨S1024x2816, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S256x1024, .f32⟩
  | .hbm, ⟨16, _⟩ => ⟨S1024x1024, .bf16⟩
  | .hbm, ⟨17, _⟩ => ⟨S32768x1024, .f32⟩
  | .hbm, ⟨18, _⟩ => ⟨S16x2048x512, .bf16⟩
  | .hbm, ⟨19, _⟩ => ⟨S32768x512, .bf16⟩
  | .hbm, ⟨20, _⟩ => ⟨S16x2048x512, .bf16⟩
  | .hbm, ⟨21, _⟩ => ⟨S32768x512, .bf16⟩
  | .hbm, ⟨22, _⟩ => ⟨S512x1024, .bf16⟩
  | .hbm, ⟨23, _⟩ => ⟨S512x1024, .bf16⟩
  | .hbm, ⟨24, _⟩ => ⟨S1x1024, .f32⟩
  | .hbm, ⟨25, _⟩ => ⟨S1x1024, .f32⟩
  | .hbm, ⟨26, _⟩ => ⟨S32768x256, .f32⟩
  | .hbm, ⟨27, _⟩ => ⟨S1024x2816, .bf16⟩
  | .hbm, ⟨28, _⟩ => ⟨S1024x2816, .bf16⟩
  | .hbm, ⟨29, _⟩ => ⟨S1x2816, .f32⟩
  | .hbm, ⟨30, _⟩ => ⟨S2816x1024, .bf16⟩
  | .hbm, ⟨31, _⟩ => ⟨S1x1024, .f32⟩
  | .hbm, ⟨32, _⟩ => ⟨S1x1024, .f32⟩
  | .hbm, ⟨33, _⟩ => ⟨S1024x1024, .bf16⟩
  | .hbm, ⟨34, _⟩ => ⟨S256x1024, .bf16⟩
  | .hbm, ⟨35, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1024x512, .bf16⟩
  | .local _ .vmem, ⟨13, _⟩ => ⟨S1024x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | .local _ .vmem, ⟨22, _⟩ => ⟨S1024x256, .f32⟩
  | .local _ .vmem, ⟨23, _⟩ => ⟨S1024x256, .f32⟩
  | .local _ .vmem, ⟨24, _⟩ => ⟨S1024x2816, .bf16⟩
  | .local _ .vmem, ⟨25, _⟩ => ⟨S1024x2816, .bf16⟩
  | .local _ .vmem, ⟨26, _⟩ => ⟨S3x2816, .f32⟩
  | .local _ .vmem, ⟨27, _⟩ => ⟨S1x2816, .f32⟩
  | .local _ .vmem, ⟨28, _⟩ => ⟨S2816x1024, .bf16⟩
  | .local _ .vmem, ⟨29, _⟩ => ⟨S1x1024, .f32⟩
  | .local _ .vmem, ⟨30, _⟩ => ⟨S1x1024, .f32⟩
  | .local _ .vmem, ⟨31, _⟩ => ⟨S1024x1024, .bf16⟩
  | .local _ .vmem, ⟨32, _⟩ => ⟨S256x1024, .bf16⟩
  | .local _ .vmem, ⟨33, _⟩ => ⟨S1024x1024, .f32⟩
  | .local _ .vmem, ⟨34, _⟩ => ⟨S1024x1024, .f32⟩
  | .local _ .vmem, ⟨35, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg23_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1024x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Tail0RefIdeal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S16x2048x256 : Shape := ⟨3, ![16, 2048, 256]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 144
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x512, .f32⟩
  | 3 => ⟨S1024x1024, .f32⟩
  | 4 => ⟨S1024, .f32⟩
  | 5 => ⟨S1024, .f32⟩
  | 6 => ⟨S16x2048x256, .f32⟩
  | 7 => ⟨S1024x2816, .f32⟩
  | 8 => ⟨S1024x2816, .f32⟩
  | 9 => ⟨S3x2816, .f32⟩
  | 10 => ⟨S2816, .f32⟩
  | 11 => ⟨S2816x1024, .f32⟩
  | 12 => ⟨S1024, .f32⟩
  | 13 => ⟨S1024, .f32⟩
  | 14 => ⟨S1024x1024, .f32⟩
  | 15 => ⟨S256x1024, .f32⟩
  | 16 => ⟨S16x2048x1024, .f32⟩
  | 17 => ⟨S16x2048x1024, .f32⟩
  | 18 => ⟨S_, .f32⟩
  | 19 => ⟨S16x2048x1024, .f32⟩
  | 20 => ⟨S16x2048x1024, .f32⟩
  | 21 => ⟨S16x2048x1024, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S16x2048x1024, .f32⟩
  | 29 => ⟨S16x2048x1024, .f32⟩
  | 30 => ⟨S16x2048x1024, .f32⟩
  | 31 => ⟨S_, .f32⟩
  | 32 => ⟨S16x2048, .f32⟩
  | 33 => ⟨S16x2048x1, .f32⟩
  | 34 => ⟨S_, .f32⟩
  | 35 => ⟨S16x2048x1, .f32⟩
  | 36 => ⟨S16x2048x1, .f32⟩
  | 37 => ⟨S16x2048x1024, .f32⟩
  | 38 => ⟨S16x2048x1024, .f32⟩
  | 39 => ⟨S_, .f32⟩
  | 40 => ⟨S16x2048x1, .f32⟩
  | 41 => ⟨S16x2048x1, .f32⟩
  | 42 => ⟨S16x2048x1, .f32⟩
  | 43 => ⟨S16x2048x1024, .f32⟩
  | 44 => ⟨S16x2048x1024, .f32⟩
  | 45 => ⟨S1x1x1024, .f32⟩
  | 46 => ⟨S16x2048x1024, .f32⟩
  | 47 => ⟨S16x2048x1024, .f32⟩
  | 48 => ⟨S1x1x1024, .f32⟩
  | 49 => ⟨S16x2048x1024, .f32⟩
  | 50 => ⟨S16x2048x1024, .f32⟩
  | 51 => ⟨S_, .f32⟩
  | 52 => ⟨S16x2048x1024, .f32⟩
  | 53 => ⟨S16x2048x1024, .f32⟩
  | 54 => ⟨S16x2048x2816, .f32⟩
  | 55 => ⟨S16x2048x2816, .f32⟩
  | 56 => ⟨S_, .i32⟩
  | 57 => ⟨S_, .f32⟩
  | 58 => ⟨S16x2050x2816, .f32⟩
  | 59 => ⟨S1x2816, .f32⟩
  | 60 => ⟨S2816, .f32⟩
  | 61 => ⟨S16x2048x2816, .f32⟩
  | 62 => ⟨S1x1x2816, .f32⟩
  | 63 => ⟨S16x2048x2816, .f32⟩
  | 64 => ⟨S16x2048x2816, .f32⟩
  | 65 => ⟨S1x1x2816, .f32⟩
  | 66 => ⟨S16x2048x2816, .f32⟩
  | 67 => ⟨S16x2048x2816, .f32⟩
  | 68 => ⟨S1x2816, .f32⟩
  | 69 => ⟨S2816, .f32⟩
  | 70 => ⟨S16x2048x2816, .f32⟩
  | 71 => ⟨S1x1x2816, .f32⟩
  | 72 => ⟨S16x2048x2816, .f32⟩
  | 73 => ⟨S16x2048x2816, .f32⟩
  | 74 => ⟨S16x2048x2816, .f32⟩
  | 75 => ⟨S1x2816, .f32⟩
  | 76 => ⟨S2816, .f32⟩
  | 77 => ⟨S16x2048x2816, .f32⟩
  | 78 => ⟨S1x1x2816, .f32⟩
  | 79 => ⟨S16x2048x2816, .f32⟩
  | 80 => ⟨S16x2048x2816, .f32⟩
  | 81 => ⟨S16x2048x2816, .f32⟩
  | 82 => ⟨S16x2048x2816, .f32⟩
  | 83 => ⟨S16x2048x2816, .f32⟩
  | 84 => ⟨S_, .f32⟩
  | 85 => ⟨S16x2048x2816, .f32⟩
  | 86 => ⟨S16x2048x2816, .f32⟩
  | 87 => ⟨S16x2048x2816, .f32⟩
  | 88 => ⟨S_, .f32⟩
  | 89 => ⟨S16x2048x2816, .f32⟩
  | 90 => ⟨S16x2048x2816, .f32⟩
  | 91 => ⟨S16x2048x2816, .f32⟩
  | 92 => ⟨S_, .f32⟩
  | 93 => ⟨S16x2048x2816, .f32⟩
  | 94 => ⟨S16x2048x2816, .f32⟩
  | 95 => ⟨S_, .f32⟩
  | 96 => ⟨S16x2048x2816, .f32⟩
  | 97 => ⟨S16x2048x2816, .f32⟩
  | 98 => ⟨S16x2048x2816, .f32⟩
  | 99 => ⟨S16x2048x2816, .f32⟩
  | 100 => ⟨S16x2048x1024, .f32⟩
  | 101 => ⟨S16x2048x1024, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S16x2048x1024, .f32⟩
  | 109 => ⟨S16x2048x1024, .f32⟩
  | 110 => ⟨S16x2048x1024, .f32⟩
  | 111 => ⟨S_, .f32⟩
  | 112 => ⟨S16x2048, .f32⟩
  | 113 => ⟨S16x2048x1, .f32⟩
  | 114 => ⟨S_, .f32⟩
  | 115 => ⟨S16x2048x1, .f32⟩
  | 116 => ⟨S16x2048x1, .f32⟩
  | 117 => ⟨S16x2048x1024, .f32⟩
  | 118 => ⟨S16x2048x1024, .f32⟩
  | 119 => ⟨S_, .f32⟩
  | 120 => ⟨S16x2048x1, .f32⟩
  | 121 => ⟨S16x2048x1, .f32⟩
  | 122 => ⟨S16x2048x1, .f32⟩
  | 123 => ⟨S16x2048x1024, .f32⟩
  | 124 => ⟨S16x2048x1024, .f32⟩
  | 125 => ⟨S1x1x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S1x1x1024, .f32⟩
  | 1 => ⟨S16x2048x1024, .f32⟩
  | 2 => ⟨S16x2048x1024, .f32⟩
  | 3 => ⟨S16x2048x1024, .f32⟩
  | 4 => ⟨S16x2048x1024, .f32⟩
  | 5 => ⟨S16x2048x1024, .f32⟩
  | 6 => ⟨S_, .f32⟩
  | 7 => ⟨S16x2048x1024, .f32⟩
  | 8 => ⟨S16x2048x1024, .f32⟩
  | 9 => ⟨S_, .f32⟩
  | 10 => ⟨S16x2048x1024, .f32⟩
  | 11 => ⟨S16x2048x1024, .f32⟩
  | 12 => ⟨S16x2048x1024, .f32⟩
  | 13 => ⟨S16x2048x1024, .f32⟩
  | 14 => ⟨S16x2048x1024, .f32⟩
  | 15 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_call0_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_7 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_cst_9 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_10 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_15 : Ref sig .tc := ⟨.hbm, 134, rfl⟩
abbrev main_v100 : Ref sig .tc := ⟨.hbm, 135, rfl⟩
abbrev main_v101 : Ref sig .tc := ⟨.hbm, 136, rfl⟩
abbrev main_cst_16 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]
-- ==== Proof.Soft.lean ====
/- Softmax over the extended reals, once its scores are real: the facts the attention kernels share. Everything is
   about functions on `Fin n`; no program is named here. -/
module

public import Idealize.ShloMosaic.Lib.Pointwise
public import Idealize.ShloMosaic.PureOps.Ideal.Laws

@[expose] public section

noncomputable section

namespace Cert.Soft

open Idealize.ShloMosaic

/-! ## The constants -/

theorem ofBits_negInf : Ideal.ofBits .f32 0xFF800000#32 = ⊥ := by simp [Ideal.ofBits, Ideal.ieee]
theorem ofBits_eighth : Ideal.ofBits .f32 0x3E000000#32 = ((0.125 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one_bf16 : Ideal.ofBits .bf16 0x3F80#16 = ((1 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-! ## Sums, quotients and maxima of reals -/

/-- A sum of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A quotient of reals by a nonzero real. -/
theorem div_coe_coe {y : ℝ} (h : y ≠ 0) (x : ℝ) : Ideal.div (x : EReal) (y : EReal) = ((x / y : ℝ) : EReal) := by
  rw [Ideal.div_coe h, ← EReal.coe_mul, mul_one_div]

/-- The largest of finitely many reals, at least one, is a real. -/
theorem fold_max_real {n : ℕ} (hn : 0 < n) (t : Fin n → ℝ) :
    ∃ M : ℝ, Finset.univ.fold max ⊥ (fun c => ((t c : ℝ) : EReal)) = (M : EReal) := by
  have e : Finset.univ.fold max ⊥ (fun c => ((t c : ℝ) : EReal)) = Finset.univ.sup fun c => ((t c : ℝ) : EReal) := rfl
  obtain ⟨i, _, hi⟩ := Finset.exists_mem_eq_sup Finset.univ ⟨(⟨0, hn⟩ : Fin n), Finset.mem_univ _⟩ fun c => ((t c : ℝ) : EReal)
  exact ⟨t i, e.trans hi⟩

/-! ## Softmax -/

/-- The softmax weight of entry `c` among the real scores `t`. -/
def soft {n : ℕ} (t : Fin n → ℝ) (c : Fin n) : ℝ := Real.exp (t c) / ∑ k, Real.exp (t k)

theorem sum_exp_pos {n : ℕ} (hn : 0 < n) (t : Fin n → ℝ) : 0 < ∑ k, Real.exp (t k) :=
  Finset.sum_pos (fun _ _ => Real.exp_pos _) ⟨⟨0, hn⟩, Finset.mem_univ _⟩

/-- Subtracting one number from every score leaves the weights as they were. -/
theorem soft_shift {n : ℕ} (t : Fin n → ℝ) (m : ℝ) (c : Fin n) :
    Real.exp (t c - m) / ∑ k, Real.exp (t k - m) = soft t c := by
  unfold soft
  simp only [Real.exp_sub, ← Finset.sum_div]
  rw [div_div_div_cancel_right₀ (Real.exp_pos m).ne']

/-- The weights as the reference writes them: exponentials of the scores less their maximum, over their sum. -/
theorem soft_ref {n : ℕ} (hn : 0 < n) (t : Fin n → ℝ) (c : Fin n) :
    Ideal.div (Ideal.exp ((t c : EReal) - max ⊥ (Finset.univ.fold max ⊥ fun k => ((t k : ℝ) : EReal))))
      (∑ j, Ideal.exp ((t j : EReal) - max ⊥ (Finset.univ.fold max ⊥ fun k => ((t k : ℝ) : EReal)))) = (soft t c : EReal) := by
  obtain ⟨M, hM⟩ := fold_max_real hn t
  simp only [hM, bot_le, max_eq_right, ← EReal.coe_sub, Ideal.exp_coe, coe_sum]
  rw [div_coe_coe (sum_exp_pos hn fun k => t k - M).ne', soft_shift]

/-- `2` to a score in base-two units is `e` to the score. -/
theorem exp2_div_log (x : ℝ) : Ideal.exp2 ((x / Real.log 2 : ℝ) : EReal) = (Real.exp x : EReal) := by
  rw [Ideal.exp2_coe]
  congr 1
  show (2 : ℝ) ^ (x / Real.log 2) = _
  rw [Real.rpow_def_of_pos (by norm_num), mul_div_cancel₀]
  exact (Real.log_pos (by norm_num)).ne'

/-- The weighted sum as the kernels write it: base-two exponentials of the scaled scores less their maximum, the values
    summed under them and divided by their own sum. -/
theorem soft_kernel {n : ℕ} (hn : 0 < n) (t w : Fin n → ℝ) :
    Ideal.div (∑ c, Ideal.exp2 (((t c / Real.log 2 : ℝ) : EReal) - Finset.univ.fold max ⊥ fun k => ((t k / Real.log 2 : ℝ) : EReal)) * (w c : EReal))
      (∑ c, Ideal.exp2 (((t c / Real.log 2 : ℝ) : EReal) - Finset.univ.fold max ⊥ fun k => ((t k / Real.log 2 : ℝ) : EReal)) * ((1 : ℝ) : EReal))
    = ((∑ c, soft t c * w c : ℝ) : EReal) := by
  obtain ⟨M, hM⟩ := fold_max_real hn fun k => t k / Real.log 2
  have hl : Real.log 2 ≠ 0 := (Real.log_pos (by norm_num)).ne'
  have h (c : Fin n) : (((t c / Real.log 2 : ℝ) : EReal) - (M : EReal)) = (((t c - M * Real.log 2) / Real.log 2 : ℝ) : EReal) := by
    rw [← EReal.coe_sub]; congr 1; field_simp
  simp only [hM, h, exp2_div_log, ← EReal.coe_mul, coe_sum, mul_one]
  rw [div_coe_coe (sum_exp_pos hn fun k => t k - M * Real.log 2).ne', Finset.sum_div]
  congr 1
  refine Finset.sum_congr rfl fun c _ => ?_
  rw [← soft_shift t (M * Real.log 2) c, div_mul_eq_mul_div]

end Cert.Soft

end
-- ==== Proof.DiffTile.lean ====
/- What one tile of 256 query rows of the differential attention computes, read at an element. -/
module

public import proofs.«01_k».proof.Proof.Gen.DiffIdeal.Skeleton
public import proofs.«01_k».proof.Proof.Soft

@[expose] public section

set_option maxRecDepth 16384

noncomputable section

namespace Cert.DiffIdeal.Tile

open Idealize.ShloMosaic Idealize.ShloMosaic.TcCoe Idealize.SL.Sem
open Cert.DiffIdeal Cert.DiffIdeal.Gen

/-- One tile's result: the payloads of the first tile, which every other tile repeats. -/
def tile (lam : FVec Ideal S1x1 .f32) (g : FVec Ideal S1x128 .f32) (q : FVec Ideal S1x256x128 .bf16)
    (k : FVec Ideal S1x2048x128 .bf16) (va : FVec Ideal S2048x256 .bf16) : FVec Ideal S1x256x128 .bf16 :=
  k0_pay8 (k0_pay7 (F := Ideal) lam k0_pay3 g q k va)

/-- The score of a query row against a key over the lanes `keep` selects. -/
def sc (keep : Fin 128 → Prop) [DecidablePred keep] (q : FVec Ideal S1x256x128 .bf16) (k : FVec Ideal S1x2048x128 .bf16)
    (r : Fin 256) (c : Fin 2048) : EReal :=
  ∑ x : Fin 128, if keep x then q (ix3 0 r x) * k (ix3 0 c x) else 0

/-- The values summed under the exponentials of the scores less their maximum. -/
def att (s : Fin 2048 → EReal) (w : Fin 2048 → EReal) : EReal :=
  ∑ c : Fin 2048, Ideal.exp2 (s c - Finset.fold max (Ideal.ofBits FTy.f32 0xFF800000#32) s Finset.univ) * w c

/-- The difference of the two maps' outputs. -/
def mix (lam : FVec Ideal S1x1 .f32) (q : FVec Ideal S1x256x128 .bf16) (k : FVec Ideal S1x2048x128 .bf16)
    (va : FVec Ideal S2048x256 .bf16) (r : Fin 256) (d : Fin 128) : EReal :=
  Ideal.div (att (sc (fun x => x.val < 64) q k r) fun c => va (ix2 c ⟨d.val, by omega⟩))
      (att (sc (fun x => x.val < 64) q k r) fun c => va (ix2 c ⟨128 + d.val, by omega⟩))
    - lam (ix2 0 0) * Ideal.div (att (sc (fun x => ¬ x.val < 64) q k r) fun c => va (ix2 c ⟨d.val, by omega⟩))
      (att (sc (fun x => ¬ x.val < 64) q k r) fun c => va (ix2 c ⟨128 + d.val, by omega⟩))

theorem sel (x : Fin 128) (a b : EReal) :
    Scalar.select (IntOp.cmpi CmpIPredicate.slt (BitVec.ofNat 32 x.val) 64#32) a b = if x.val < 64 then a else b := by
  have h : IntOp.cmpi CmpIPredicate.slt (BitVec.ofNat 32 x.val) 64#32 = if x.val < 64 then 1#1 else 0#1 := by
    revert x; decide
  rw [h]; split <;> rfl

theorem selN (x : Fin 128) (a b : EReal) :
    (if x.val < 64 then a else b) = if ¬ x.val < 64 then b else a := by
  split <;> simp_all

theorem tile_apply (lam g q k va) (r : Fin 256) (d : Fin 128) : tile lam g q k va (ix3 0 r d)
    = mix lam q k va r d * Ideal.rsqrt (Ideal.div (∑ x : Fin 128, mix lam q k va r x * mix lam q k va r x) (Ideal.ofBits .f32 0x43000000#32)
        + Ideal.ofBits .f32 0x3727C5AC#32) * g (ix2 0 d) := by
  pointwise [tile, k0_pay8, k0_pay7, k0_pay3]
  simp only [sel, mix, att, sc, ite_not]
  rfl

/-- One row of the kernel's result, from the row's query, the keys, the values, the gain and the weight. -/
def rowMix (lam : EReal) (q : Fin 128 → EReal) (k v : Fin 2048 → Fin 128 → EReal) (d : Fin 128) : EReal :=
  Ideal.div (att (fun c => ∑ x : Fin 128, if x.val < 64 then q x * k c x else 0) fun c => v c d)
      (att (fun c => ∑ x : Fin 128, if x.val < 64 then q x * k c x else 0) fun _ => 1)
    - lam * Ideal.div (att (fun c => ∑ x : Fin 128, if ¬ x.val < 64 then q x * k c x else 0) fun c => v c d)
      (att (fun c => ∑ x : Fin 128, if ¬ x.val < 64 then q x * k c x else 0) fun _ => 1)

/-- … normalised by its root mean square and scaled by the gain. -/
def rowOut (lam : EReal) (g : Fin 128 → EReal) (q : Fin 128 → EReal) (k v : Fin 2048 → Fin 128 → EReal) (d : Fin 128) : EReal :=
  rowMix lam q k v d * Ideal.rsqrt (Ideal.div (∑ x : Fin 128, rowMix lam q k v x * rowMix lam q k v x) (Ideal.ofBits .f32 0x43000000#32)
    + Ideal.ofBits .f32 0x3727C5AC#32) * g d

/-- A tile whose right half of the values is one is `rowOut` at every row. -/
theorem tile_row (lam g q k va) (r : Fin 256) (d : Fin 128) (L : EReal) (G Q : Fin 128 → EReal) (K W : Fin 2048 → Fin 128 → EReal)
    (hl : lam (ix2 0 0) = L) (hg : ∀ x, g (ix2 0 x) = G x) (hq : ∀ x, q (ix3 0 r x) = Q x) (hk : ∀ c x, k (ix3 0 c x) = K c x)
    (hv : ∀ c (x : Fin 128), va (ix2 c ⟨x.val, by omega⟩) = W c x) (h1 : ∀ c (x : Fin 128), va (ix2 c ⟨128 + x.val, by omega⟩) = 1) :
    tile lam g q k va (ix3 0 r d) = rowOut L G Q K W d := by
  have hm : ∀ x, mix lam q k va r x = rowMix L Q K W x := fun x => by
    have hs : ∀ (keep : Fin 128 → Prop) [DecidablePred keep],
        sc keep q k r = fun c => ∑ x : Fin 128, if keep x then Q x * K c x else 0 := fun keep _ => by
      funext c; simp only [sc, hq, hk]
    simp only [mix, rowMix, hs, hl, hv, h1]
  rw [tile_apply]
  simp only [hm, hg, rowOut]

/-- `tile_row` at any index of the tile. -/
theorem tile_at (lam g q k va) (x : S1x256x128.Idx) (d : Fin 128) (hd : (d : ℕ) = x 2) (L : EReal) (G Q : Fin 128 → EReal)
    (K W : Fin 2048 → Fin 128 → EReal)
    (hl : lam (ix2 0 0) = L) (hg : ∀ x, g (ix2 0 x) = G x) (hq : ∀ z, q (ix3 0 (x 1) z) = Q z) (hk : ∀ c x, k (ix3 0 c x) = K c x)
    (hv : ∀ c (x : Fin 128), va (ix2 c ⟨x.val, by omega⟩) = W c x) (h1 : ∀ c (x : Fin 128), va (ix2 c ⟨128 + x.val, by omega⟩) = 1) :
    tile lam g q k va x = rowOut L G Q K W d := by
  obtain ⟨a, b, e, rfl⟩ : ∃ a b c, x = ix3 a b c := ⟨_, _, _, eq_ix3 x⟩
  obtain rfl : a = 0 := Subsingleton.elim _ _
  obtain rfl : d = e := Fin.ext hd
  exact tile_row lam g q k va b d L G Q K W hl hg hq hk hv h1

theorem tile_eq1 (lam g q k va) :
    k0_pay11 (F := Ideal) g (k0_pay9 lam k0_pay3 q k va) (k0_pay10 lam k0_pay3 q k va) = tile lam g q k va := rfl
theorem tile_eq2 (lam g q k va) :
    k0_pay14 (F := Ideal) g (k0_pay12 lam k0_pay3 q k va) (k0_pay13 lam k0_pay3 q k va) = tile lam g q k va := rfl
theorem tile_eq3 (lam g q k va) :
    k0_pay17 (F := Ideal) lam g (k0_pay15 k0_pay3 q k va) (k0_pay16 k0_pay3 q k va) = tile lam g q k va := rfl
theorem tile_eq4 (lam g q k va) :
    k0_pay20 (F := Ideal) lam g (k0_pay18 k0_pay3 q k) va (k0_pay19 k0_pay3 q k) = tile lam g q k va := rfl
theorem tile_eq5 (lam g q k va) :
    k0_pay22 (F := Ideal) lam g (k0_pay21 k0_pay3 q) k va = tile lam g q k va := rfl
theorem tile_eq6 (lam g q k va) :
    k0_pay26 (F := Ideal) lam k0_pay3 g (k0_pay23 q) k0_pay24 (k0_pay25 k0_pay3) k va = tile lam g q k va := rfl
theorem tile_eq7 (lam g q k va) :
    k0_pay1 (F := Ideal) (k0_pay27 lam k0_pay3 g q k va) = tile lam g q k va := rfl

end Cert.DiffIdeal.Tile
-- ==== Proof.DiffValue.lean ====
module

public import proofs.«01_k».proof.Proof.Gen.DiffIdeal.Value
public import proofs.«01_k».proof.Proof.DiffTile
public import Idealize.ShloMosaic.Lib.Pipeline.ValueKit
public import Idealize.ShloMosaic.Lib.Claim

@[expose] public section

set_option maxRecDepth 16384

noncomputable section

namespace Cert.DiffIdeal.Tile

open Idealize.ShloMosaic Idealize.ShloMosaic.TcCoe Idealize.SL.Sem
open Cert.DiffIdeal Cert.DiffIdeal.Gen

variable (m : (ℓ : Loc nD τ sig) → Buf (Elt Ideal) ℓ)

/-- The values with the second store's columns beside them. -/
def beside (P5 P6 : FVec Ideal S2048x128 .bf16) : FVec Ideal S2048x256 .bf16 := fun i =>
  if h : (i 1 : ℕ) < 128 then P5 (ix2 (i 0) ⟨(i 1 : ℕ), h⟩) else P6 (ix2 (i 0) ⟨(i 1 : ℕ) - 128, by have := (i 1).isLt; simp at this; omega⟩)

theorem scratch_eq (v : View sig .tc .vmem S2048x256 .bf16) (i1 i0 iL) (P6 P5 : FVec Ideal S2048x128 .bf16) :
    v.readCov (Val := Elt Ideal) [⟨Rect.unit ![0, 128] ![2048, 128] i1, P6⟩, ⟨Rect.unit ![0, 0] ![2048, 128] i0, P5⟩]
      (Rect.unit ![0, 0] ![2048, 256] iL).toLoadRect = beside P5 P6 := by
  have hcov : ∀ y : S2048x256.Idx, ∃ p ∈ ([⟨Rect.unit ![0, 128] ![2048, 128] i1, P6⟩, ⟨Rect.unit ![0, 0] ![2048, 128] i0, P5⟩] :
      List (View.Piece (Elt Ideal) S2048x256 .bf16)), y ∈ p.1.set := by
    intro y
    have h0 := (y 0).isLt
    have h1 := (y 1).isLt
    by_cases h : (y 1 : ℕ) < 128
    · refine ⟨_, List.mem_cons_of_mem _ (List.mem_singleton_self _), (Rect.mem_set_unit (inb := i0)).2 fun a => ?_⟩
      fin_cases a
      · exact ⟨by simp, by simp at h0 ⊢; omega⟩
      · exact ⟨by simp, by simp at h1 ⊢; omega⟩
    · refine ⟨_, List.mem_cons_self, (Rect.mem_set_unit (inb := i1)).2 fun a => ?_⟩
      fin_cases a
      · exact ⟨by simp, by simp at h0 ⊢; omega⟩
      · exact ⟨by simp; omega, by simp at h1 ⊢; omega⟩
  rw [View.readCov_eq_canon_ld _ _ _ hcov, View.ld_unit_zero (by decide)]
  funext y
  canon_tiles x h using hcov y
  · have h : ¬ (y 1 : ℕ) < 128 := by omega
    simp only [beside, dif_neg h]
    rw [eq_ix2 x]
    congr 1
    exact congrArg₂ ix2 (Fin.ext h0.symm) (Fin.ext (by show (x 1 : ℕ) = (y 1 : ℕ) - 128; omega))
  · have h : (y 1 : ℕ) < 128 := by omega
    simp only [beside, dif_pos h]
    rw [eq_ix2 x]
    congr 1
    exact congrArg₂ ix2 (Fin.ext h0.symm) (Fin.ext h1.symm)

/-- The left half of the scratch is the values … -/
theorem beside_left (v : FVec Ideal S1x2048x128 .bf16) (k : Fin 2048) (z : Fin 128) :
    beside (k0_pay5 (F := Ideal) v) (k0_pay6 (F := Ideal)) (ix2 k ⟨z.val, by omega⟩) = v (ix3 0 k z) := by
  have h : ((ix2 k (⟨z.val, by omega⟩ : Fin 256) : S2048x256.Idx) 1 : ℕ) < 128 := z.isLt
  rw [beside, dif_pos h]
  pointwise [k0_pay5]

/-- … and its right half is one. -/
theorem beside_right (v : FVec Ideal S1x2048x128 .bf16) (k : Fin 2048) (z : Fin 128) :
    beside (k0_pay5 (F := Ideal) v) (k0_pay6 (F := Ideal)) (ix2 k ⟨128 + z.val, by omega⟩) = 1 := by
  have h : ¬ ((ix2 k (⟨128 + z.val, by omega⟩ : Fin 256) : S2048x256.Idx) 1 : ℕ) < 128 := by
    show ¬ 128 + z.val < 128
    omega
  rw [beside, dif_neg h]
  pointwise [k0_pay6]

/-- A load of 256 rows reads the row it names. -/
theorem ld_rows (X : FVec Ideal S1x2048x128 .bf16) (o : ℕ) (inb) (b : Fin 256) (i : Fin 2048) (h : (i : ℕ) = o + b) (z : Fin 128) :
    View.ld (Val := Elt Ideal) (e' := .bf16) X (Rect.unit (s := S1x2048x128) ![0, o, 0] ![1, 256, 128] inb) (ix3 0 b z) = X (ix3 0 i z) := by
  refine congrArg X (funext fun a => Fin.ext ?_)
  fin_cases a
  · simp
  · simp [h]
  · simp

theorem block (c : Dev nD) (t : Fin cfg0.N) (y : S1x2048x128.Idx) :
    outsAt0 (F := Ideal) m c t y = rowOut (k0_pay2 (F := Ideal) (iblk m c 0 t) (ix2 0 0)) (fun d => k0_pay4 (F := Ideal) (iblk m c 1 t) (ix2 0 d))
      (fun x => iblk m c 2 t (ix3 0 (y 1) x)) (fun k x => iblk m c 3 t (ix3 0 k x)) (fun k x => iblk m c 4 t (ix3 0 k x)) (y 2) := by
  unfold outsAt0
  frame_out
  canon_tiles x h
  case piece0 =>
    rw [tile_eq7]; exact tile_at _ _ _ _ _ x _ h2 _ _ _ _ _ rfl (fun _ => rfl) (fun z => ld_rows _ 1792 _ _ _ h1 z) (fun _ _ => rfl)
      (fun k z => by rw [scratch_eq]; exact beside_left _ _ _) (fun k z => by rw [scratch_eq]; exact beside_right _ _ _)
  case piece1 =>
    rw [tile_eq6]; exact tile_at _ _ _ _ _ x _ h2 _ _ _ _ _ rfl (fun _ => rfl) (fun z => ld_rows _ 1536 _ _ _ h1 z) (fun _ _ => rfl)
      (fun k z => by rw [scratch_eq]; exact beside_left _ _ _) (fun k z => by rw [scratch_eq]; exact beside_right _ _ _)
  case piece2 =>
    rw [tile_eq5]; exact tile_at _ _ _ _ _ x _ h2 _ _ _ _ _ rfl (fun _ => rfl) (fun z => ld_rows _ 1280 _ _ _ h1 z) (fun _ _ => rfl)
      (fun k z => by rw [scratch_eq]; exact beside_left _ _ _) (fun k z => by rw [scratch_eq]; exact beside_right _ _ _)
  case piece3 =>
    rw [tile_eq4]; exact tile_at _ _ _ _ _ x _ h2 _ _ _ _ _ rfl (fun _ => rfl) (fun z => ld_rows _ 1024 _ _ _ h1 z) (fun _ _ => rfl)
      (fun k z => by rw [scratch_eq]; exact beside_left _ _ _) (fun k z => by rw [scratch_eq]; exact beside_right _ _ _)
  case piece4 =>
    rw [tile_eq3]; exact tile_at _ _ _ _ _ x _ h2 _ _ _ _ _ rfl (fun _ => rfl) (fun z => ld_rows _ 768 _ _ _ h1 z) (fun _ _ => rfl)
      (fun k z => by rw [scratch_eq]; exact beside_left _ _ _) (fun k z => by rw [scratch_eq]; exact beside_right _ _ _)
  case piece5 =>
    rw [tile_eq2]; exact tile_at _ _ _ _ _ x _ h2 _ _ _ _ _ rfl (fun _ => rfl) (fun z => ld_rows _ 512 _ _ _ h1 z) (fun _ _ => rfl)
      (fun k z => by rw [scratch_eq]; exact beside_left _ _ _) (fun k z => by rw [scratch_eq]; exact beside_right _ _ _)
  case piece6 =>
    rw [tile_eq1]; exact tile_at _ _ _ _ _ x _ h2 _ _ _ _ _ rfl (fun _ => rfl) (fun z => ld_rows _ 256 _ _ _ h1 z) (fun _ _ => rfl)
      (fun k z => by rw [scratch_eq]; exact beside_left _ _ _) (fun k z => by rw [scratch_eq]; exact beside_right _ _ _)
  case piece7 =>
    exact tile_at _ _ _ _ _ x _ h2 _ _ _ _ _ rfl (fun _ => rfl) (fun z => ld_rows _ 0 _ _ _ (by omega) z) (fun _ _ => rfl)
      (fun k z => by rw [scratch_eq]; exact beside_left _ _ _) (fun k z => by rw [scratch_eq]; exact beside_right _ _ _)

theorem idx : ∀ t : Fin cfg0.N, win0_0.index t = ![0, 0] ∧ win0_1.index t = ![0, 0] ∧ win0_2.index t = ![t.val / 8, 0, t.val % 8]
    ∧ win0_3.index t = ![t.val / 8, 0, t.val % 8] ∧ win0_4.index t = ![t.val / 8, 0, t.val % 8] ∧ win0_5.index t = ![t.val / 8, 0, t.val % 8] :=
  (by decide +kernel : ∀ t : Fin grid0.N, _)

/-- The scale the queries carry: the score's scale over the logarithm of two. -/
def qScale : EReal := Ideal.div (Ideal.ofBits .f32 0x3E000000#32) (Ideal.log (Ideal.ofBits .f32 0x40000000#32))

/-- The kernel's result as a function of the launched arrays. -/
def arr (x0 : FVec Ideal S4x64 .f32) (x1 : FVec Ideal S128 .f32) (x2 x3 x4 : FVec Ideal S16x2048x1024 .f32) :
    FVec Ideal S16x2048x1024 .bf16 := fun i =>
  rowOut (k0_pay2 (F := Ideal) x0 (ix2 0 0)) (fun d => x1 (ix1 d) * Ideal.ofBits .f32 0x3F24FD5C#32)
    (fun x => x2 (ix3 (i 0) (i 1) ⟨(i 2 : ℕ) / 128 * 128 + x.val, by have := (i 2).isLt; simp at this; omega⟩) * qScale)
    (fun k x => x3 (ix3 (i 0) k ⟨(i 2 : ℕ) / 128 * 128 + x.val, by have := (i 2).isLt; simp at this; omega⟩))
    (fun k x => x4 (ix3 (i 0) k ⟨(i 2 : ℕ) / 128 * 128 + x.val, by have := (i 2).isLt; simp at this; omega⟩))
    ⟨(i 2 : ℕ) % 128, Nat.mod_lt _ (by decide)⟩

/-- The launched gain and queries, at their own types. -/
abbrev gainOf (c : Dev nD) : FVec Ideal S128 .f32 := m ((c : Thread nD τ).loc main_arg1)
abbrev queryOf (c : Dev nD) : FVec Ideal S16x2048x1024 .f32 := m ((c : Thread nD τ).loc main_arg2)

theorem V_q (c : Dev nD) (i) : V m c main_v11 i = queryOf m c i * qScale := by
  entry_read
  idx_vars i
  pointwise [qScale]
theorem V_k (c : Dev nD) (i) : V m c main_v12 i = m ((c : Thread nD τ).loc main_arg3) i := by
  entry_read
  idx_vars i
  pointwise
theorem V_v (c : Dev nD) (i) : V m c main_v13 i = m ((c : Thread nD τ).loc main_arg4) i := by
  entry_read
  idx_vars i
  pointwise
theorem V_g (c : Dev nD) (d) : k0_pay4 (F := Ideal) (V m c main_v5) (ix2 0 d) = gainOf m c (ix1 d) * Ideal.ofBits .f32 0x3F24FD5C#32 := by
  entry_read
  pointwise [k0_pay4]

theorem t_lt (t : Fin cfg0.N) : t.val < 128 := lt_of_lt_of_eq t.isLt N_0

theorem rd2 (X : FVec Ideal S16x2048x1024 .bf16) (t : Fin cfg0.N) (r : Fin 2048) (x : Fin 128) :
    ((cfg0.win 2).blk t).view.read (Elt Ideal) X (ix3 0 r x)
    = X (ix3 ⟨t.val / 8, by have := t_lt t; omega⟩ r ⟨t.val % 8 * 128 + x.val, by omega⟩) := by
  blk_ext [idx t]

theorem iblk2 (c : Dev nD) (t : Fin cfg0.N) (r : Fin 2048) (x : Fin 128) : iblk m c 2 t (ix3 0 r x)
    = V m c main_v11 (ix3 ⟨t.val / 8, by have := t_lt t; omega⟩ r ⟨t.val % 8 * 128 + x.val, by omega⟩) := by
  exact rd2 (V m c main_v11) t r x

theorem rd3 (X : FVec Ideal S16x2048x1024 .bf16) (t : Fin cfg0.N) (r : Fin 2048) (x : Fin 128) :
    ((cfg0.win 3).blk t).view.read (Elt Ideal) X (ix3 0 r x)
    = X (ix3 ⟨t.val / 8, by have := t_lt t; omega⟩ r ⟨t.val % 8 * 128 + x.val, by omega⟩) := by
  blk_ext [idx t]

theorem iblk3 (c : Dev nD) (t : Fin cfg0.N) (r : Fin 2048) (x : Fin 128) : iblk m c 3 t (ix3 0 r x)
    = V m c main_v12 (ix3 ⟨t.val / 8, by have := t_lt t; omega⟩ r ⟨t.val % 8 * 128 + x.val, by omega⟩) := by
  exact rd3 (V m c main_v12) t r x

theorem rd4 (X : FVec Ideal S16x2048x1024 .bf16) (t : Fin cfg0.N) (r : Fin 2048) (x : Fin 128) :
    ((cfg0.win 4).blk t).view.read (Elt Ideal) X (ix3 0 r x)
    = X (ix3 ⟨t.val / 8, by have := t_lt t; omega⟩ r ⟨t.val % 8 * 128 + x.val, by omega⟩) := by
  blk_ext [idx t]

theorem iblk4 (c : Dev nD) (t : Fin cfg0.N) (r : Fin 2048) (x : Fin 128) : iblk m c 4 t (ix3 0 r x)
    = V m c main_v13 (ix3 ⟨t.val / 8, by have := t_lt t; omega⟩ r ⟨t.val % 8 * 128 + x.val, by omega⟩) := by
  exact rd4 (V m c main_v13) t r x

theorem final (c : Dev nD) : (dats m 0 c).arrAt 5 (cfgs 0).N
    = arr (m ((c : Thread nD τ).loc main_arg0)) (gainOf m c) (queryOf m c)
        (m ((c : Thread nD τ).loc main_arg3)) (m ((c : Thread nD τ).loc main_arg4)) := by
  refine (dats m 0 c).arrAt_eq_of_covers 5 _ (by decide +kernel) fun t hf y => ?_
  blk_simp
  rw [after0_5, block]
  unfold arr
  refine congr (congr (congr (congr (congr (congrArg rowOut ?_) ?_) ?_) ?_) ?_) ?_
  · exact congrArg (fun v => k0_pay2 (F := Ideal) v (ix2 0 0)) (by blk_ext! [iblk, V, idx t])
  · funext d
    refine Eq.trans ?_ (V_g m c d)
    exact congrArg (fun v => k0_pay4 (F := Ideal) v (ix2 0 d)) (by blk_ext! [iblk, idx t])
  · funext x
    refine ((iblk2 m c t (y 1) x).trans (V_q m c _)).trans ?_
    refine congrArg (fun a => queryOf m c a * qScale) ?_
    blk_ext [idx t]
  · funext k x
    refine ((iblk3 m c t k x).trans (V_k m c _)).trans ?_
    refine congrArg (m ((c : Thread nD τ).loc main_arg3)) ?_
    blk_ext [idx t]
  · funext k x
    refine ((iblk4 m c t k x).trans (V_v m c _)).trans ?_
    refine congrArg (m ((c : Thread nD τ).loc main_arg4)) ?_
    blk_ext [idx t]
  · blk_simp [idx t]
    refine Fin.ext ?_
    have h2 : ((y 2 : ℕ)) < 128 := (y 2).isLt
    show (y 2 : ℕ) = (t.val % 8 * 128 + (y 2 : ℕ)) % 128
    omega
end Cert.DiffIdeal.Tile
-- ==== Proof.DiffRef.lean ====
/- The reference's operations, one stage at a time, read at an element. -/
module
public import proofs.«01_k».proof.Proof.Gen.DiffRefIdeal.Read
public import Idealize.ShloMosaic.Lib.Pointwise
@[expose] public section
set_option maxRecDepth 16384
noncomputable section
namespace Cert.DiffRefIdeal.Tile
open Idealize.ShloMosaic Idealize.ShloMosaic.TcCoe Idealize.SL.Sem
open Cert.DiffRefIdeal Cert.DiffRefIdeal.Gen Cert.DiffRefIdeal.Read

/-- The maximum of each row of scores. -/
def maxStage (s : FVec Ideal S16x8x2x2048x2048 .f32) : FVec Ideal S16x8x2x2048 .f32 :=
  Host.reduce FloatOps.maximumf s (constant S_ .f32 0xFF800000#32) reducesTo_S16x8x2x2048x2048_S16x8x2x2048_d4 h_S_

theorem maxStage_apply (s : FVec Ideal S16x8x2x2048x2048 .f32) (b : Fin 16) (h : Fin 8) (c : Fin 2) (q : Fin 2048) :
   maxStage s (ix4 b h c q) = Finset.fold max (Ideal.ofBits FTy.f32 0xFF800000#32) (fun x : Fin 2048 => s (ix5 b h c q x)) Finset.univ := by
  pointwise [maxStage]

/-- The exponentials of the scores less their row's maximum. -/
def expStage (s : FVec Ideal S16x8x2x2048x2048 .f32) (m : FVec Ideal S16x8x2x2048 .f32) : FVec Ideal S16x8x2x2048x2048 .f32 :=
  Host.exp (subf s (broadcastInDim S16x8x2x2048x2048 ![0, 1, 2, 3, 4] bcast_S16x8x2x2048x1_S16x8x2x2048x2048_0_1_2_3_4
    (broadcastInDim S16x8x2x2048x1 ![0, 1, 2, 3] bcast_S16x8x2x2048_S16x8x2x2048x1_0_1_2_3
      (maximumf (broadcastInDim S16x8x2x2048 ![] bcast_S_S16x8x2x2048 (constant S_ .f32 0xFF800000#32)) m))))

theorem expStage_apply (s : FVec Ideal S16x8x2x2048x2048 .f32) (m : FVec Ideal S16x8x2x2048 .f32) (b : Fin 16) (h : Fin 8) (c : Fin 2) (q k : Fin 2048) :
   expStage s m (ix5 b h c q k) = Ideal.exp (s (ix5 b h c q k) - max (Ideal.ofBits FTy.f32 0xFF800000#32) (m (ix4 b h c q))) := by
  pointwise [expStage]

/-- The sum of each row. -/
def sumStage (e : FVec Ideal S16x8x2x2048x2048 .f32) : FVec Ideal S16x8x2x2048 .f32 :=
  Host.reduceAdd e (constant S_ .f32 0x00000000#32) reducesTo_S16x8x2x2048x2048_S16x8x2x2048_d4 h_S_

theorem sumStage_apply (e : FVec Ideal S16x8x2x2048x2048 .f32) (b : Fin 16) (h : Fin 8) (c : Fin 2) (q : Fin 2048) :
   sumStage e (ix4 b h c q) = ∑ x : Fin 2048, e (ix5 b h c q x) := by
  pointwise [sumStage]

/-- The exponentials over their row's sum. -/
def probStage (e : FVec Ideal S16x8x2x2048x2048 .f32) (z : FVec Ideal S16x8x2x2048 .f32) : FVec Ideal S16x8x2x2048x2048 .f32 :=
  Host.divf e (broadcastInDim S16x8x2x2048x2048 ![0, 1, 2, 3, 4] bcast_S16x8x2x2048x1_S16x8x2x2048x2048_0_1_2_3_4
    (broadcastInDim S16x8x2x2048x1 ![0, 1, 2, 3] bcast_S16x8x2x2048_S16x8x2x2048x1_0_1_2_3 z))

theorem probStage_apply (e : FVec Ideal S16x8x2x2048x2048 .f32) (z : FVec Ideal S16x8x2x2048 .f32) (b : Fin 16) (h : Fin 8) (c : Fin 2) (q k : Fin 2048) :
   probStage e z (ix5 b h c q k) = Ideal.div (e (ix5 b h c q k)) (z (ix4 b h c q)) := by
  pointwise [probStage]

/-- The two maps' difference. -/
def diffStage (lam : FVec Ideal S_ .f32) (p : FVec Ideal S16x8x2x2048x2048 .f32) : FVec Ideal S16x8x2048x2048 .f32 :=
    subf (shapeCast _ (extractStridedSlice S16x8x1x2048x2048 ![0, 0, 0, 0, 0] p slices_S16x8x2x2048x2048_S16x8x1x2048x2048_0_0_0_0_0) shapeCasts_S16x8x1x2048x2048_S16x8x2048x2048)
      (mulf (broadcastInDim S16x8x2048x2048 ![] bcast_S_S16x8x2048x2048 lam)
        (shapeCast _ (extractStridedSlice S16x8x1x2048x2048 ![0, 0, 1, 0, 0] p slices_S16x8x2x2048x2048_S16x8x1x2048x2048_0_0_1_0_0) shapeCasts_S16x8x1x2048x2048_S16x8x2048x2048))

theorem diffStage_apply (lam : FVec Ideal S_ .f32) (p : FVec Ideal S16x8x2x2048x2048 .f32)
    (b : Fin 16) (h : Fin 8) (q k : Fin 2048) :
   diffStage lam p (ix4 b h q k) = p (ix5 b h 0 q k) - lam ix0 * p (ix5 b h 1 q k) := by
  pointwise [diffStage]

/-- A map applied to the values. -/
def mixStage (p : FVec Ideal S16x8x2048x2048 .f32) (v : FVec Ideal S16x2048x1024 .f32) :
    FVec Ideal S16x2048x8x128 .f32 :=
  transpose S16x2048x8x128 [0, 3, 1, 2] (Host.dotGeneral (φ₁ := .f32) (φ₂ := .f32) dot_S16x2048x8x128_S16x8x2048x2048_S16x8x128x2048_1_3_3_2_02_01 none
    (shapeCast _ v shapeCasts_S16x2048x1024_S16x2048x8x128) p)
    transposes_S16x8x128x2048_S16x2048x8x128_0_3_1_2

theorem mixStage_apply (p : FVec Ideal S16x8x2048x2048 .f32) (v : FVec Ideal S16x2048x1024 .f32)
    (b : Fin 16) (h : Fin 8) (q : Fin 2048) (d : Fin 128) :
   mixStage p v (ix4 b q h d) = ∑ x : Fin 2048,
      v (ix3 b x ⟨h.val * 128 + d.val, by omega⟩) * p (ix4 b h q x) := by
  pointwise [mixStage]

theorem prob_eq (x2 x3 : FVec Ideal S16x2048x1024 .f32) : val_main_v32 (F := Ideal) x2 x3
    = probStage (expStage (val_main_v21 (F := Ideal) x2 x3) (maxStage (val_main_v21 (F := Ideal) x2 x3)))
      (sumStage (expStage (val_main_v21 (F := Ideal) x2 x3) (maxStage (val_main_v21 (F := Ideal) x2 x3)))) := rfl

theorem mix_eq (x0 : FVec Ideal S4x64 .f32) (x2 x3 x4 : FVec Ideal S16x2048x1024 .f32) :
    val_main_v41 (F := Ideal) x0 x2 x3 x4 = mixStage (diffStage (val_main_v18 (F := Ideal) x0) (val_main_v32 (F := Ideal) x2 x3)) x4 := rfl

/-- The scaled score of one query against one key in one of a head's two maps. -/
theorem score_apply (x2 x3 : FVec Ideal S16x2048x1024 .f32) (b : Fin 16) (h : Fin 8) (c : Fin 2) (q k : Fin 2048) :
    val_main_v21 (F := Ideal) x2 x3 (ix5 b h c q k)
    = (∑ x : Fin 64, x2 (ix3 b q ⟨h.val * 128 + c.val * 64 + x.val, by omega⟩) * x3 (ix3 b k ⟨h.val * 128 + c.val * 64 + x.val, by omega⟩))
      * Ideal.ofBits .f32 0x3E000000#32 := by
  pointwise [val_main_v21, val_main_v20, val_main_v19, val_main_v0, val_main_v1, val_main_cst_2]

/-- The output: each head's row over its root mean square, under the gain and the constant. -/
def outStage (o : FVec Ideal S16x2048x8x128 .f32) (g : FVec Ideal S128 .f32) : FVec Ideal S16x2048x1024 .bf16 :=
  truncf .bf16 (shapeCast _ (mulf (mulf (mulf o (broadcastInDim S16x2048x8x128 ![0, 1, 2, 3] bcast_S16x2048x8x1_S16x2048x8x128_0_1_2_3
    (Host.rsqrt (addf (Host.divf (broadcastInDim S16x2048x8x1 ![0, 1, 2] bcast_S16x2048x8_S16x2048x8x1_0_1_2
      (Host.reduceAdd (mulf o o) (val_main_cst_6 (F := Ideal)) reducesTo_S16x2048x8x128_S16x2048x8_d3 h_S_)) (val_main_v45 (F := Ideal)))
      (val_main_v47 (F := Ideal)))))) (val_main_v53 (F := Ideal) g)) (val_main_v55 (F := Ideal))) shapeCasts_S16x2048x8x128_S16x2048x1024) bitsLt_bf16_f32

theorem outStage_apply (o : FVec Ideal S16x2048x8x128 .f32) (g : FVec Ideal S128 .f32) (b : Fin 16) (q : Fin 2048) (w : Fin 1024) :
    outStage o g (ix3 b q w) = o (ix4 b q ⟨w.val / 128, by omega⟩ ⟨w.val % 128, by omega⟩)
      * Ideal.rsqrt (Ideal.div (∑ x : Fin 128, o (ix4 b q ⟨w.val / 128, by omega⟩ x) * o (ix4 b q ⟨w.val / 128, by omega⟩ x)) (Ideal.ofBits .f32 0x43000000#32)
        + Ideal.ofBits .f32 0x3727C5AC#32) * g (ix1 ⟨w.val % 128, by omega⟩) * Ideal.ofBits .f32 0x3F24FD5C#32 := by
  pointwise [outStage, val_main_v45, val_main_v47, val_main_v52, val_main_v53, val_main_v55, val_main_cst_6, val_main_cst_7, val_main_cst_8, val_main_cst_9]

theorem out_eq (x0 : FVec Ideal S4x64 .f32) (x1 : FVec Ideal S128 .f32) (x2 x3 x4 : FVec Ideal S16x2048x1024 .f32) :
    val_main_v58 (F := Ideal) x0 x1 x2 x3 x4 = outStage (val_main_v41 (F := Ideal) x0 x2 x3 x4) x1 := rfl

end Cert.DiffRefIdeal.Tile
-- ==== Proof.DiffMath.lean ====
/- At real queries, keys, values and lambdas the kernel's array is the reference's. -/
module

public import proofs.«01_k».proof.Proof.DiffValue
public import proofs.«01_k».proof.Proof.DiffRef

@[expose] public section

set_option maxRecDepth 16384

noncomputable section

namespace Cert.DiffIdeal.Tile

open Idealize.ShloMosaic Idealize.ShloMosaic.TcCoe Idealize.SL.Sem
open Cert.DiffIdeal Cert.DiffIdeal.Gen Cert.Soft

/-- The scaled scores of one query in half `h` of the head's columns. -/
def half (h : Fin 2) (Q : Fin 128 → ℝ) (K : Fin 2048 → Fin 128 → ℝ) (c : Fin 2048) : ℝ :=
  (∑ x : Fin 64, Q ⟨h.val * 64 + x.val, by omega⟩ * K c ⟨h.val * 64 + x.val, by omega⟩) * 0.125

theorem qScale_eq : qScale = ((0.125 / Real.log 2 : ℝ) : EReal) := by
  have hl : Real.log 2 ≠ 0 := (Real.log_pos (by norm_num)).ne'
  rw [qScale, ofBits_eighth, ofBits_two, show Ideal.log ((2 : ℝ) : EReal) = ((Real.log 2 : ℝ) : EReal) from if_neg (by norm_num), div_coe_coe hl]

theorem score0 (Q : Fin 128 → ℝ) (K : Fin 2048 → Fin 128 → ℝ) (c : Fin 2048) :
    (∑ x : Fin 128, if x.val < 64 then ((Q x : ℝ) : EReal) * qScale * ((K c x : ℝ) : EReal) else 0) = ((half 0 Q K c / Real.log 2 : ℝ) : EReal) := by
  have e : ∀ x : Fin 128, (if x.val < 64 then ((Q x : ℝ) : EReal) * qScale * ((K c x : ℝ) : EReal) else 0)
      = (((if x.val < 64 then Q x * (0.125 / Real.log 2) * K c x else 0 : ℝ)) : EReal) := fun x => by
    rw [qScale_eq]; split <;> simp [EReal.coe_mul]
  simp only [e, coe_sum]
  congr 1
  rw [Fin.sum_univ_two_halves 64 64 rfl]
  simp only [half, Finset.sum_mul, Finset.sum_div]
  refine (congrArg₂ (· + ·) rfl (Finset.sum_eq_zero fun x _ => if_neg (by simp))).trans ?_
  rw [add_zero]
  refine Finset.sum_congr rfl fun x _ => ?_
  rw [if_pos (by simp)]
  simp only [Fin.val_zero, zero_mul, zero_add]
  ring

theorem score1 (Q : Fin 128 → ℝ) (K : Fin 2048 → Fin 128 → ℝ) (c : Fin 2048) :
    (∑ x : Fin 128, if ¬ x.val < 64 then ((Q x : ℝ) : EReal) * qScale * ((K c x : ℝ) : EReal) else 0) = ((half 1 Q K c / Real.log 2 : ℝ) : EReal) := by
  have e : ∀ x : Fin 128, (if ¬ x.val < 64 then ((Q x : ℝ) : EReal) * qScale * ((K c x : ℝ) : EReal) else 0)
      = (((if ¬ x.val < 64 then Q x * (0.125 / Real.log 2) * K c x else 0 : ℝ)) : EReal) := fun x => by
    rw [qScale_eq]; split <;> simp [EReal.coe_mul]
  simp only [e, coe_sum]
  congr 1
  rw [Fin.sum_univ_two_halves 64 64 rfl]
  simp only [half, Finset.sum_mul, Finset.sum_div]
  rw [Finset.sum_eq_zero (f := fun _ : Fin 64 => _) (fun x _ => if_neg (by simp)), zero_add]
  refine Finset.sum_congr rfl fun x _ => ?_
  rw [if_pos (by simp)]
  simp only [Fin.val_one, one_mul]
  ring

/-- The kernel's difference of two softmaxes applied to the values, at reals. -/
theorem rowMix_real (L : ℝ) (Q : Fin 128 → ℝ) (K W : Fin 2048 → Fin 128 → ℝ) (d : Fin 128) :
    rowMix (L : EReal) (fun x => (Q x : EReal) * qScale) (fun c x => (K c x : EReal)) (fun c x => (W c x : EReal)) d
    = ((∑ c, W c d * (soft (half 0 Q K) c - L * soft (half 1 Q K) c) : ℝ) : EReal) := by
  have h0 := soft_kernel (n := 2048) (by norm_num) (half 0 Q K) fun c => W c d
  have h1 := soft_kernel (n := 2048) (by norm_num) (half 1 Q K) fun c => W c d
  rw [EReal.coe_one] at h0 h1
  unfold rowMix att
  rw [ofBits_negInf, funext (score0 Q K), funext (score1 Q K)]
  rw [h0, h1, ← EReal.coe_mul, ← EReal.coe_sub]
  refine congrArg Real.toEReal ?_
  rw [Finset.mul_sum, ← Finset.sum_sub_distrib]
  exact Finset.sum_congr rfl fun c _ => by ring

/-- The reference's map of one head, at reals. -/
theorem ref_prob (X2 X3 : S16x2048x1024.Idx → ℝ) (b : Fin 16) (h : Fin 8) (c : Fin 2) (q k : Fin 2048) :
    Cert.DiffRefIdeal.Read.val_main_v32 (F := Ideal) (fun i => (X2 i : EReal)) (fun i => (X3 i : EReal)) (ix5 b h c q k)
    = (soft (half c (fun x => X2 (ix3 b q ⟨h.val * 128 + x.val, by omega⟩)) (fun k x => X3 (ix3 b k ⟨h.val * 128 + x.val, by omega⟩))) k : EReal) := by
  have hs : ∀ k', Cert.DiffRefIdeal.Read.val_main_v21 (F := Ideal) (fun i => (X2 i : EReal)) (fun i => (X3 i : EReal)) (ix5 b h c q k')
      = ((half c (fun x => X2 (ix3 b q ⟨h.val * 128 + x.val, by omega⟩)) (fun k x => X3 (ix3 b k ⟨h.val * 128 + x.val, by omega⟩)) k' : ℝ) : EReal) := fun k' => by
    rw [Cert.DiffRefIdeal.Tile.score_apply, ofBits_eighth]
    simp only [← EReal.coe_mul, coe_sum, half, Nat.add_assoc]
  rw [Cert.DiffRefIdeal.Tile.prob_eq]
  simp only [Cert.DiffRefIdeal.Tile.probStage_apply, Cert.DiffRefIdeal.Tile.sumStage_apply, Cert.DiffRefIdeal.Tile.expStage_apply,
    Cert.DiffRefIdeal.Tile.maxStage_apply, hs, ofBits_negInf]
  exact soft_ref (by decide) _ k

theorem ref_mix (x0 : FVec Ideal S4x64 .f32) (L : ℝ) (hL : Cert.DiffRefIdeal.Read.val_main_v18 (F := Ideal) x0 ix0 = (L : EReal))
    (X2 X3 X4 : S16x2048x1024.Idx → ℝ) (b : Fin 16) (q : Fin 2048) (h : Fin 8) (d : Fin 128) :
    Cert.DiffRefIdeal.Read.val_main_v41 (F := Ideal) x0 (fun i => (X2 i : EReal)) (fun i => (X3 i : EReal)) (fun i => (X4 i : EReal)) (ix4 b q h d)
    = rowMix (L : EReal) (fun x => (X2 (ix3 b q ⟨h.val * 128 + x.val, by omega⟩) : EReal) * qScale)
        (fun k x => (X3 (ix3 b k ⟨h.val * 128 + x.val, by omega⟩) : EReal)) (fun k x => (X4 (ix3 b k ⟨h.val * 128 + x.val, by omega⟩) : EReal)) d := by
  rw [rowMix_real L (fun x => X2 (ix3 b q ⟨h.val * 128 + x.val, by omega⟩)) (fun k x => X3 (ix3 b k ⟨h.val * 128 + x.val, by omega⟩))
    (fun k x => X4 (ix3 b k ⟨h.val * 128 + x.val, by omega⟩)) d]
  rw [Cert.DiffRefIdeal.Tile.mix_eq, Cert.DiffRefIdeal.Tile.mixStage_apply]
  simp only [Cert.DiffRefIdeal.Tile.diffStage_apply, ref_prob, hL, ← EReal.coe_mul, ← EReal.coe_sub, coe_sum]

/-- The kernel's array is the reference's. -/
theorem arr_eq (x0 : FVec Ideal S4x64 .f32) (x1 : FVec Ideal S128 .f32) (L : ℝ)
    (hL : Cert.DiffRefIdeal.Read.val_main_v18 (F := Ideal) x0 ix0 = (L : EReal)) (hK : k0_pay2 (F := Ideal) x0 (ix2 0 0) = (L : EReal))
    (X2 X3 X4 : S16x2048x1024.Idx → ℝ) :
    Cert.DiffRefIdeal.Read.val_main_v58 (F := Ideal) x0 x1 (fun i => (X2 i : EReal)) (fun i => (X3 i : EReal)) (fun i => (X4 i : EReal))
    = arr x0 x1 (fun i => (X2 i : EReal)) (fun i => (X3 i : EReal)) (fun i => (X4 i : EReal)) := by
  funext i
  obtain ⟨b, q, w, rfl⟩ : ∃ (b : Fin 16) (q : Fin 2048) (w : Fin 1024), i = ix3 b q w := ⟨_, _, _, eq_ix3 i⟩
  rw [Cert.DiffRefIdeal.Tile.out_eq, Cert.DiffRefIdeal.Tile.outStage_apply]
  simp only [ref_mix x0 L hL]
  rw [arr, rowOut, hK, mul_assoc (_ * Ideal.rsqrt _)]
  rfl

/-- The constant added to the weight of the second map. -/
theorem ofBits_lam : Ideal.ofBits .f32 0x3EB60549#32 = ((11928905 / 33554432 : ℝ) : EReal) := by
  simp [Ideal.ofBits, Ideal.ieee, -EReal.coe_mul]; norm_num

/-- The weight of the second map, from real parameters. -/
def lamOf (X0 : S4x64.Idx → ℝ) : ℝ :=
  Real.exp (∑ x : Fin 64, X0 (ix2 0 x) * X0 (ix2 1 x)) - Real.exp (∑ x : Fin 64, X0 (ix2 2 x) * X0 (ix2 3 x)) + 11928905 / 33554432

theorem lam_kernel (X0 : S4x64.Idx → ℝ) : k0_pay2 (F := Ideal) (fun i => (X0 i : EReal)) (ix2 0 0) = (lamOf X0 : EReal) := by
  pointwise [k0_pay2]
  simp only [← EReal.coe_mul, coe_sum, Ideal.exp_coe, ← EReal.coe_sub, ofBits_lam, ← EReal.coe_add]
  rfl

theorem lam_ref (X0 : S4x64.Idx → ℝ) : Cert.DiffRefIdeal.Read.val_main_v18 (F := Ideal) (fun i => (X0 i : EReal)) ix0 = (lamOf X0 : EReal) := by
  pointwise [Cert.DiffRefIdeal.Read.val_main_v3, Cert.DiffRefIdeal.Read.val_main_v4, Cert.DiffRefIdeal.Read.val_main_v5, Cert.DiffRefIdeal.Read.val_main_v6,
    Cert.DiffRefIdeal.Read.val_main_v7, Cert.DiffRefIdeal.Read.val_main_v8, Cert.DiffRefIdeal.Read.val_main_v9, Cert.DiffRefIdeal.Read.val_main_v10,
    Cert.DiffRefIdeal.Read.val_main_v11, Cert.DiffRefIdeal.Read.val_main_v12, Cert.DiffRefIdeal.Read.val_main_v13, Cert.DiffRefIdeal.Read.val_main_v14,
    Cert.DiffRefIdeal.Read.val_main_v15, Cert.DiffRefIdeal.Read.val_main_v16, Cert.DiffRefIdeal.Read.val_main_v17, Cert.DiffRefIdeal.Read.val_main_v18,
    Cert.DiffRefIdeal.Read.val_main_cst, Cert.DiffRefIdeal.Read.val_main_cst_0, Cert.DiffRefIdeal.Read.val_main_cst_1]
  simp only [← EReal.coe_mul, coe_sum, Ideal.exp_coe, ← EReal.coe_sub, ofBits_lam, ← EReal.coe_add]
  rfl

end Cert.DiffIdeal.Tile
-- ==== Proof.DiffPre.lean ====
/- What the precondition says of the arguments: every element is a real. -/
module

public import proofs.«01_k».proof.Proof.Gen.Pre_finite
public import Idealize.ShloMosaic.Lib.Pointwise
public import Idealize.ShloMosaic.Lib.ReduceAll

@[expose] public section

set_option maxRecDepth 16384

noncomputable section

namespace Cert.Pre_finite.Real

open Idealize.ShloMosaic Idealize.ShloMosaic.TcCoe Idealize.SL.Sem
open Cert.Pre_finite

theorem ofBits_inf : Ideal.ofBits .f32 0x7F800000#32 = ⊤ := by simp [Ideal.ofBits, Ideal.ieee]

instance : Subsingleton S_.Idx := ⟨fun a b => funext fun x => x.elim0⟩

/-- An extended real whose absolute value is below infinity is a real. -/
theorem real_of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- An array whose elements are all reals is one of reals. -/
theorem reals {s : Shape} (x : FVec Ideal s .f32) (h : ∀ i, ∃ r : ℝ, x i = (r : EReal)) : ∃ X : s.Idx → ℝ, x = fun i => (X i : EReal) :=
  ⟨fun i => (h i).choose, funext fun i => (h i).choose_spec⟩

theorem finite_real [Facts] (x0 : FVec Ideal S4x64 .f32) (x1 : FVec Ideal S128 .f32) (x2 x3 x4 : FVec Ideal S16x2048x1024 .f32)
    (h : fn (F := Ideal) x0 x1 x2 x3 x4 = fun _ => 1#1) :
    (∃ X : S4x64.Idx → ℝ, x0 = fun i => (X i : EReal)) ∧ (∃ X : S16x2048x1024.Idx → ℝ, x2 = fun i => (X i : EReal)) ∧ (∃ X : S16x2048x1024.Idx → ℝ, x3 = fun i => (X i : EReal))
      ∧ ∃ X : S16x2048x1024.Idx → ℝ, x4 = fun i => (X i : EReal) := by
  have h0 := congrFun h ix0
  simp only [fn, fn_part1] at h0
  obtain ⟨h1, e4⟩ := IntOp.andi_eq_one.1 h0
  obtain ⟨h2, e3⟩ := IntOp.andi_eq_one.1 h1
  obtain ⟨e0, e2⟩ := IntOp.andi_eq_one.1 h2
  refine ⟨reals _ fun i => ?_, reals _ fun i => ?_, reals _ fun i => ?_, reals _ fun i => ?_⟩
  · have e := Host.reduce_andi_all _ _ _ _ _ e0 i
    refine real_of_abs_lt ?_
    rw [← ofBits_inf]
    exact e
  · have e := Host.reduce_andi_all _ _ _ _ _ e2 i
    refine real_of_abs_lt ?_
    rw [← ofBits_inf]
    exact e
  · have e := Host.reduce_andi_all _ _ _ _ _ e3 i
    refine real_of_abs_lt ?_
    rw [← ofBits_inf]
    exact e
  · have e := Host.reduce_andi_all _ _ _ _ _ e4 i
    refine real_of_abs_lt ?_
    rw [← ofBits_inf]
    exact e

end Cert.Pre_finite.Real
-- ==== Proof.Rows.lean ====
/- The rows of the last part of a layer: layer norm, the feed-forward part's gate and its activation, the embedding's gate. -/
module

public import Idealize.ShloMosaic.Lib.Pointwise

@[expose] public section

noncomputable section

namespace Cert.Rows

open Idealize.ShloMosaic

/-- The mean of a row. -/
def mean (z : Fin 1024 → EReal) : EReal := Ideal.div (∑ k, z k) (Ideal.ofBits .f32 0x44800000#32)

/-- Layer norm of a row, with its gain and bias. -/
def norm (z g b : Fin 1024 → EReal) (j : Fin 1024) : EReal :=
  (z j - mean z) * Ideal.rsqrt (Ideal.div (∑ k, (z k - mean z) * (z k - mean z)) (Ideal.ofBits .f32 0x44800000#32)
    + Ideal.ofBits .f32 0x3727C5AC#32) * g j + b j

/-- The mixer's output of a row, projected, added to the row and normed. -/
def mixed (x o : Fin 1024 → EReal) (w : Fin 1024 → Fin 1024 → EReal) (g b : Fin 1024 → EReal) : Fin 1024 → EReal :=
  norm (fun j => Ideal.ofBits .f32 0x3FB504F3#32 * x j + ∑ k, o k * w k j) g b

/-- The activation of the feed-forward part's gate. -/
def act (c : EReal) : EReal :=
  Ideal.ofBits .f32 0x3F000000#32 * c * (1 + Ideal.tanh (Ideal.ofBits .f32 0x3F4C422A#32 * (c + Ideal.ofBits .f32 0x3D372713#32 * (c * c * c))))

/-- The gate after the convolution over three rows. -/
def conv (cb w0 w1 w2 a0 a1 a2 : EReal) : EReal := cb + w0 * a0 + w1 * a1 + w2 * a2

/-- The last lines: the feed-forward part's projection and norm, then the gated embedding. -/
def last (x : Fin 1024 → EReal) (h : Fin 2816 → EReal) (wd : Fin 2816 → Fin 1024 → EReal) (g b : Fin 1024 → EReal) (p : Fin 256 → EReal)
    (wg : Fin 1024 → Fin 1024 → EReal) (wp : Fin 256 → Fin 1024 → EReal) (j : Fin 1024) : EReal :=
  norm (fun j => Ideal.ofBits .f32 0x3FB504F3#32 * x j + ∑ f, h f * wd f j) g b j
    + Ideal.logistic (∑ k, norm (fun j => Ideal.ofBits .f32 0x3FB504F3#32 * x j + ∑ f, h f * wd f j) g b k * wg k j) * ∑ k, p k * wp k j

/-- The normed row at position `s` of batch `b`. -/
def rowX (x o : Fin 16 → Fin 2048 → Fin 1024 → EReal) (w : Fin 1024 → Fin 1024 → EReal) (mg mb : Fin 1024 → EReal) (b : Fin 16) (s : Fin 2048) :
    Fin 1024 → EReal := mixed (x b s) (o b s) w mg mb

/-- The feed-forward part's gated activations at a position: the gate's rows before and after it are zero outside the sequence. -/
def rowH (X : Fin 2048 → Fin 1024 → EReal) (wg wu : Fin 1024 → Fin 2816 → EReal) (cw : Fin 3 → Fin 2816 → EReal) (cb : Fin 2816 → EReal)
    (s : Fin 2048) (f : Fin 2816) : EReal :=
  act (conv (cb f) (cw 0 f) (cw 1 f) (cw 2 f)
      (if h : 1 ≤ s.val then ∑ k, X ⟨s.val - 1, by omega⟩ k * wg k f else 0)
      (∑ k, X s k * wg k f)
      (if h : s.val + 1 < 2048 then ∑ k, X ⟨s.val + 1, h⟩ k * wg k f else 0))
    * ∑ k, X s k * wu k f

/-- The layer's last part. -/
def tail (x o : Fin 16 → Fin 2048 → Fin 1024 → EReal) (w : Fin 1024 → Fin 1024 → EReal) (mg mb : Fin 1024 → EReal)
    (p : Fin 16 → Fin 2048 → Fin 256 → EReal) (wg wu : Fin 1024 → Fin 2816 → EReal) (cw : Fin 3 → Fin 2816 → EReal) (cb : Fin 2816 → EReal)
    (wd : Fin 2816 → Fin 1024 → EReal) (fg fb : Fin 1024 → EReal) (pg : Fin 1024 → Fin 1024 → EReal) (pp : Fin 256 → Fin 1024 → EReal)
    (b : Fin 16) (s : Fin 2048) : Fin 1024 → EReal :=
  last (rowX x o w mg mb b s) (rowH (rowX x o w mg mb b) wg wu cw cb s) wd fg fb (p b s) pg pp

end Cert.Rows

end
-- ==== Proof.TailTile.lean ====
/- What one tile of 1024 rows of the layer's last part computes, read at an element. -/
module

public import proofs.«01_k».proof.Proof.Gen.TailIdeal.Skeleton
public import proofs.«01_k».proof.Proof.Rows

@[expose] public section

set_option maxRecDepth 16384

noncomputable section

namespace Cert.TailIdeal.Tile

open Idealize.ShloMosaic Idealize.ShloMosaic.TcCoe Idealize.SL.Sem
open Cert.TailIdeal Cert.TailIdeal.Gen Cert.Rows

/-- The rows of a tile with the sixteen before and the sixteen after it. -/
def stack {φ : FTy} (P : FVec Ideal S16x1024 φ) (M : FVec Ideal S1024x1024 φ) (N : FVec Ideal S16x1024 φ) (s : Fin 1056) (k : Fin 1024) : EReal :=
  if h : s.val < 16 then P (ix2 ⟨s.val, h⟩ k) else if h' : s.val - 16 < 1024 then M (ix2 ⟨s.val - 16, h'⟩ k) else N (ix2 ⟨s.val - 16 - 1024, by omega⟩ k)

/-- One row of the stack before its norm. -/
def pre (v1 : FVec Ideal S16x1024 .bf16) (v3 : FVec Ideal S1024x1024 .bf16) (v5 : FVec Ideal S16x1024 .bf16) (v8 : FVec Ideal S1024x1024 .bf16)
    (v11 : FVec Ideal S16x1024 .f32) (v13 : FVec Ideal S1024x1024 .f32) (v15 : FVec Ideal S16x1024 .f32) (s : Fin 1056) (j : Fin 1024) : EReal :=
  Ideal.ofBits .f32 0x3FB504F3#32 * stack v11 v13 v15 s j + ∑ k, stack v1 v3 v5 s k * v8 (ix2 k j)

theorem pay4_apply (v1 v3 v5 v8 v11 v13 v15) (s : Fin 1056) (j : Fin 1024) :
    k0_pay4 (F := Ideal) v1 v3 v5 v8 v11 v13 v15 (ix2 s j) = pre v1 v3 v5 v8 v11 v13 v15 s j - mean (pre v1 v3 v5 v8 v11 v13 v15 s) := by
  pointwise [k0_pay4]
  simp only [pre, mean, stack]

theorem pay5_apply (v1 v3 v5 v8 v11 v13 v15) (s : Fin 1056) :
    k0_pay5 (F := Ideal) v1 v3 v5 v8 v11 v13 v15 (ix2 s 0) = ∑ j, k0_pay4 (F := Ideal) v1 v3 v5 v8 v11 v13 v15 (ix2 s j) * k0_pay4 (F := Ideal) v1 v3 v5 v8 v11 v13 v15 (ix2 s j) := by
  pointwise [k0_pay5]

theorem pay6_apply (g b : FVec Ideal S1x1024 .f32) (v30 : FVec Ideal S1056x1024 .f32) (v33 : FVec Ideal S1056x1 .f32) (s : Fin 1056) (j : Fin 1024) :
    k0_pay6 (F := Ideal) (k0_pay2 (F := Ideal) g) (k0_pay3 (F := Ideal) b) v30 v33 (Scalar.ofBits .f32 0x44800000#32) (ix2 s j)
      = v30 (ix2 s j) * Ideal.rsqrt (Ideal.div (v33 (ix2 s 0)) (Ideal.ofBits .f32 0x44800000#32) + Ideal.ofBits .f32 0x3727C5AC#32) * g (ix2 0 j) + b (ix2 0 j) := by
  pointwise [k0_pay6, k0_pay2, k0_pay3]

/-- Which rows of the stack the sequence has: the tile is the sequence's first half or its second. -/
def inside (z : Bool) (s : Fin 1056) : Prop := if z then 16 ≤ s.val else s.val < 1040

instance (z : Bool) (s : Fin 1056) : Decidable (inside z s) := by unfold inside; infer_instance

/-- The number of the tile within its sequence. -/
def half (z : Bool) : BitVec 32 := if z then 0#32 else 1#32

theorem mask (z : Bool) (s : Fin 1056) (a b : EReal) :
    Scalar.select (IntOp.andi (IntOp.ori (IntOp.cmpi .sge (BitVec.ofNat 32 s.val) 16#32) (Scalar.cmpi .ne (half z) 0#32))
      (IntOp.ori (IntOp.cmpi .slt (BitVec.ofNat 32 s.val) 1040#32) (Scalar.cmpi .ne (half z) 1#32))) a b = if inside z s then a else b := by
  have h : IntOp.andi (IntOp.ori (IntOp.cmpi .sge (BitVec.ofNat 32 s.val) 16#32) (Scalar.cmpi .ne (half z) 0#32))
      (IntOp.ori (IntOp.cmpi .slt (BitVec.ofNat 32 s.val) 1040#32) (Scalar.cmpi .ne (half z) 1#32)) = if inside z s then 1#1 else 0#1 := by
    revert s; revert z; decide +kernel
  rw [h]; split <;> rfl

theorem pay7_apply (z : Bool) (v22 v24 v30 v33 c) (s : Fin 1056) (j : Fin 1024) :
    k0_pay7 (F := Ideal) (half z) v22 v24 v30 v33 c (ix2 s j) = if inside z s then k0_pay6 (F := Ideal) v22 v24 v30 v33 c (ix2 s j) else 0 := by
  pointwise [k0_pay7]
  rw [mask]

/-- One chunk of 256 columns of the feed-forward part, over all rows of the tile. -/
def chunk (v61 : FVec Ideal S1056x1024 .bf16) (v62 : FVec Ideal S1024x1024 .bf16) (wg wu : FVec Ideal S1024x256 .bf16) (cw : FVec Ideal S3x256 .f32)
    (cb : FVec Ideal S1x256 .f32) : FVec Ideal S1024x256 .bf16 := k0_pay31 (F := Ideal) (k0_pay30 (F := Ideal) v61 v62 wg wu cw cb)

theorem chunk_apply (v61 v62 wg wu cw cb) (r : Fin 1024) (c : Fin 256) : chunk v61 v62 wg wu cw cb (ix2 r c)
    = act (conv (cb (ix2 0 c)) (cw (ix2 0 c)) (cw (ix2 1 c)) (cw (ix2 2 c))
        (∑ k, v61 (ix2 (⟨r.val + 15, by omega⟩ : Fin 1056) k) * wg (ix2 k c))
        (∑ k, v61 (ix2 (⟨r.val + 16, by omega⟩ : Fin 1056) k) * wg (ix2 k c))
        (∑ k, v61 (ix2 (⟨r.val + 17, by omega⟩ : Fin 1056) k) * wg (ix2 k c)))
      * ∑ k, v62 (ix2 r k) * wu (ix2 k c) := by
  pointwise [chunk, k0_pay31, k0_pay30]
  have e0 : (16 + r.val + 1056 - 1) % 1056 = r.val + 15 := by omega
  have e1 : 16 + r.val = r.val + 16 := by omega
  have e2 : (16 + r.val + 1056 - 1055) % 1056 = r.val + 17 := by omega
  simp only [e0, e2]
  simp only [act, conv, e1]

/-! Every chunk is this one. -/

theorem chunk0 (v0 v22 v24 v30 v33 c wg wu cw cb) : k0_pay14 (F := Ideal) (k0_pay10 (F := Ideal) v0 v22 v24 v30 v33 c wg) (k0_pay11 (F := Ideal) v0 v22 v24 v30 v33 c wu) cw
    (k0_pay12 (F := Ideal) v0 v22 v24 v30 v33 c wg) (k0_pay13 (F := Ideal) v0 v22 v24 v30 v33 c wg) cb
    = chunk (k0_pay7 (F := Ideal) v0 v22 v24 v30 v33 c) (k0_pay8 (F := Ideal) v0 v22 v24 v30 v33 c) wg wu cw cb := rfl

theorem chunk1 (v61 v62 wg wu cw cb) : k0_pay19 (F := Ideal) (k0_pay15 (F := Ideal) v61 wg) (k0_pay16 (F := Ideal) v62 wu) cw (k0_pay17 (F := Ideal) v61 wg)
    (k0_pay18 (F := Ideal) v61 wg) cb = chunk v61 v62 wg wu cw cb := rfl

theorem chunk2 (v61 v62 wg wu cw cb) : k0_pay22 (F := Ideal) (k0_pay20 (F := Ideal) v61 wg) (k0_pay21 (F := Ideal) v62 wu) cw 1#32 cb
    = chunk v61 v62 wg wu cw cb := rfl

theorem chunk3 (v61 v62 wg wu cw cb) : k0_pay25 (F := Ideal) (k0_pay23 (F := Ideal) v61 wg) (k0_pay24 (F := Ideal) v62 wu) cw cb
    = chunk v61 v62 wg wu cw cb := rfl

theorem chunk4 (v61 v62 wg wu cw cb) : k0_pay27 (F := Ideal) v62 (k0_pay26 (F := Ideal) v61 wg) wu cw cb = chunk v61 v62 wg wu cw cb := rfl

theorem chunk5 (v61 v62 wg wu cw cb) : k0_pay29 (F := Ideal) v61 v62 (k0_pay28 (F := Ideal) wg) wu cw cb = chunk v61 v62 wg wu cw cb := rfl

theorem chunk7 (v61 v62 wg wu cw cb) : k0_pay34 (F := Ideal) (k0_pay32 (F := Ideal) v62 wu) (k0_pay33 (F := Ideal) v61 wg cw cb) = chunk v61 v62 wg wu cw cb := rfl

theorem chunk8 (v61 v62 wg wu cw cb) : k0_pay39 (F := Ideal) (k0_pay35 (F := Ideal) v62 wu) (k0_pay37 (F := Ideal) v61 wg cw cb) (k0_pay38 (F := Ideal) v61 wg cw cb)
    = chunk v61 v62 wg wu cw cb := rfl

theorem chunk9 (v61 v62 wg wu cw cb) : k0_pay44 (F := Ideal) (k0_pay40 (F := Ideal) v62 wu) (k0_pay42 (F := Ideal) v61 wg cw cb) (k0_pay43 (F := Ideal) v61 wg cw cb)
    = chunk v61 v62 wg wu cw cb := rfl

theorem chunk10 (v61 v62 wg wu cw cb) : k0_pay49 (F := Ideal) (k0_pay45 (F := Ideal) v62 wu) (k0_pay46 (F := Ideal) v61 wg cw cb) (k0_pay47 (F := Ideal) v61 wg cw cb)
    (k0_pay48 (F := Ideal) v61 wg cw cb) = chunk v61 v62 wg wu cw cb := rfl

/-! The rows after the mixer's norm, and the result. -/

/-- The normed row `s` of the stack. -/
theorem pay6_mixed (v1 : FVec Ideal S16x1024 .bf16) (v3 : FVec Ideal S1024x1024 .bf16) (v5 : FVec Ideal S16x1024 .bf16) (v8 : FVec Ideal S1024x1024 .bf16)
    (v11 : FVec Ideal S16x1024 .f32) (v13 : FVec Ideal S1024x1024 .f32) (v15 : FVec Ideal S16x1024 .f32) (g b : FVec Ideal S1x1024 .f32) (s : Fin 1056) (j : Fin 1024) :
    k0_pay6 (F := Ideal) (k0_pay2 (F := Ideal) g) (k0_pay3 (F := Ideal) b) (k0_pay4 (F := Ideal) v1 v3 v5 v8 v11 v13 v15) (k0_pay5 (F := Ideal) v1 v3 v5 v8 v11 v13 v15)
      (Scalar.ofBits .f32 0x44800000#32) (ix2 s j)
    = mixed (stack v11 v13 v15 s) (stack v1 v3 v5 s) (fun k j => v8 (ix2 k j)) (fun j => g (ix2 0 j)) (fun j => b (ix2 0 j)) j := by
  rw [pay6_apply, pay5_apply]
  simp only [pay4_apply]
  rfl

theorem pay52_apply (v63 : FVec Ideal S1024x1024 .f32) (h : FVec Ideal S1024x2816 .bf16) (wd : FVec Ideal S2816x1024 .bf16) (r j : Fin 1024) :
    k0_pay52 (F := Ideal) v63 h wd (ix2 r j)
    = (Ideal.ofBits .f32 0x3FB504F3#32 * v63 (ix2 r j) + ∑ f, h (ix2 r f) * wd (ix2 f j))
      - mean (fun j => Ideal.ofBits .f32 0x3FB504F3#32 * v63 (ix2 r j) + ∑ f, h (ix2 r f) * wd (ix2 f j)) := by
  pointwise [k0_pay52]
  simp only [mean]

theorem pay53_apply (v63 : FVec Ideal S1024x1024 .f32) (h : FVec Ideal S1024x2816 .bf16) (wd : FVec Ideal S2816x1024 .bf16) (r : Fin 1024) :
    k0_pay53 (F := Ideal) v63 h wd (ix2 r 0)
    = Ideal.rsqrt (Ideal.div (∑ j, k0_pay52 (F := Ideal) v63 h wd (ix2 r j) * k0_pay52 (F := Ideal) v63 h wd (ix2 r j)) (Ideal.ofBits .f32 0x44800000#32)
      + Ideal.ofBits .f32 0x3727C5AC#32) := by
  pointwise [k0_pay53]

theorem pay1_apply (g b : FVec Ideal S1x1024 .f32) (v575 : FVec Ideal S1024x1024 .f32) (v583 : FVec Ideal S1024x1 .f32) (wg : FVec Ideal S1024x1024 .bf16)
    (p : FVec Ideal S1024x256 .f32) (wp : FVec Ideal S256x1024 .bf16) (r j : Fin 1024) :
    k0_pay1 (F := Ideal) (k0_pay50 (F := Ideal) g) (k0_pay51 (F := Ideal) b) v575 v583 wg p wp (ix2 r j)
    = (v575 (ix2 r j) * v583 (ix2 r 0) * g (ix2 0 j) + b (ix2 0 j))
      + Ideal.logistic (∑ k, (v575 (ix2 r k) * v583 (ix2 r 0) * g (ix2 0 k) + b (ix2 0 k)) * wg (ix2 k j)) * ∑ k, p (ix2 r k) * wp (ix2 k j) := by
  pointwise [k0_pay1, k0_pay50, k0_pay51]

theorem result_apply (g b : FVec Ideal S1x1024 .f32) (v63 : FVec Ideal S1024x1024 .f32) (h : FVec Ideal S1024x2816 .bf16) (wd : FVec Ideal S2816x1024 .bf16)
    (wg : FVec Ideal S1024x1024 .bf16) (p : FVec Ideal S1024x256 .f32) (wp : FVec Ideal S256x1024 .bf16) (r j : Fin 1024) :
    k0_pay1 (F := Ideal) (k0_pay50 (F := Ideal) g) (k0_pay51 (F := Ideal) b) (k0_pay52 (F := Ideal) v63 h wd) (k0_pay53 (F := Ideal) v63 h wd) wg p wp (ix2 r j)
    = last (fun j => v63 (ix2 r j)) (fun f => h (ix2 r f)) (fun f j => wd (ix2 f j)) (fun j => g (ix2 0 j)) (fun j => b (ix2 0 j)) (fun k => p (ix2 r k))
        (fun k j => wg (ix2 k j)) (fun k j => wp (ix2 k j)) j := by
  rw [pay1_apply, pay53_apply]
  simp only [pay52_apply]
  rfl

end Cert.TailIdeal.Tile
-- ==== Proof.TailBlock.lean ====
/- What the kernel of the layer's last part leaves in a tile's block of the result, from the blocks it is given. -/
module

public import proofs.«01_k».proof.Proof.Gen.TailIdeal.Value
public import proofs.«01_k».proof.Proof.TailTile
public import Idealize.ShloMosaic.Lib.Pipeline.ValueKit
public import Idealize.ShloMosaic.Lib.Claim

@[expose] public section

set_option maxRecDepth 16384

noncomputable section

namespace Cert.TailIdeal.Tile

open Idealize.ShloMosaic Idealize.ShloMosaic.TcCoe Idealize.SL.Sem
open Cert.TailIdeal Cert.TailIdeal.Gen Cert.Rows

variable (m : (ℓ : Loc nD τ sig) → Buf (Elt Ideal) ℓ)

/-- The gated activations of a tile, all 2816 columns of them. -/
def gates (v61 : FVec Ideal S1056x1024 .bf16) (v62 : FVec Ideal S1024x1024 .bf16) (wg wu : FVec Ideal S1024x2816 .bf16) (cw : FVec Ideal S3x2816 .f32)
    (cb : FVec Ideal S1x2816 .f32) : FVec Ideal S1024x2816 .bf16 := fun i =>
  act (conv (cb (ix2 0 (i 1))) (cw (ix2 0 (i 1))) (cw (ix2 1 (i 1))) (cw (ix2 2 (i 1)))
      (∑ k, v61 (ix2 (⟨(i 0).val + 15, by have := (i 0).isLt; simp at this; omega⟩ : Fin 1056) k) * wg (ix2 k (i 1)))
      (∑ k, v61 (ix2 (⟨(i 0).val + 16, by have := (i 0).isLt; simp at this; omega⟩ : Fin 1056) k) * wg (ix2 k (i 1)))
      (∑ k, v61 (ix2 (⟨(i 0).val + 17, by have := (i 0).isLt; simp at this; omega⟩ : Fin 1056) k) * wg (ix2 k (i 1))))
    * ∑ k, v62 (ix2 (i 0) k) * wu (ix2 k (i 1))

theorem gates_apply (v61 : FVec Ideal S1056x1024 .bf16) (v62 : FVec Ideal S1024x1024 .bf16) (wg wu : FVec Ideal S1024x2816 .bf16) (cw : FVec Ideal S3x2816 .f32)
    (cb : FVec Ideal S1x2816 .f32) (r : Fin 1024) (f : Fin 2816) : gates v61 v62 wg wu cw cb (ix2 r f)
    = act (conv (cb (ix2 0 f)) (cw (ix2 0 f)) (cw (ix2 1 f)) (cw (ix2 2 f))
        (∑ k, v61 (ix2 (⟨r.val + 15, by omega⟩ : Fin 1056) k) * wg (ix2 k f))
        (∑ k, v61 (ix2 (⟨r.val + 16, by omega⟩ : Fin 1056) k) * wg (ix2 k f))
        (∑ k, v61 (ix2 (⟨r.val + 17, by omega⟩ : Fin 1056) k) * wg (ix2 k f)))
      * ∑ k, v62 (ix2 r k) * wu (ix2 k f) := rfl

/-- A chunk holds the columns of `G` from `o` on. -/
def Fits (G : FVec Ideal S1024x2816 .bf16) (o : ℕ) (P : FVec Ideal S1024x256 .bf16) : Prop :=
  ∀ (r : Fin 1024) (c : Fin 256) (f : Fin 2816), f.val = o + c.val → P (ix2 r c) = G (ix2 r f)

/-- Loading columns from `o` on. -/
theorem ld_cols {n : ℕ} {e : EltTy} (X : (⟨⟨2, ![n, 2816]⟩, e⟩ : BufTy).Contents (Elt Ideal)) (o : ℕ) (inb) (k : Fin n) (c : Fin 256) (f : Fin 2816) (h : f.val = o + c.val) :
    View.ld (Val := Elt Ideal) (e' := e) X (Rect.unit (s := ⟨2, ![n, 2816]⟩) ![0, o] ![n, 256] inb) (ix2 k c) = X (ix2 k f) := by
  refine congrArg X (funext fun a => Fin.ext ?_)
  fin_cases a
  · simp
  · simp [h]

theorem chunk_fits (v61 : FVec Ideal S1056x1024 .bf16) (v62 : FVec Ideal S1024x1024 .bf16) (wg wu : FVec Ideal S1024x2816 .bf16) (cw : FVec Ideal S3x2816 .f32)
    (cb : FVec Ideal S1x2816 .f32) (o : ℕ) (i1 i2 i3) :
    Fits (gates v61 v62 wg wu cw cb) o (chunk v61 v62 (View.ld (Val := Elt Ideal) (e' := .bf16) wg (Rect.unit (s := S1024x2816) ![0, o] ![1024, 256] i1))
      (View.ld (Val := Elt Ideal) (e' := .bf16) wu (Rect.unit (s := S1024x2816) ![0, o] ![1024, 256] i1))
      (View.ld (Val := Elt Ideal) (e' := .f32) cw (Rect.unit (s := S3x2816) ![0, o] ![3, 256] i2))
      (View.ld (Val := Elt Ideal) (e' := .f32) cb (Rect.unit (s := S1x2816) ![0, o] ![1, 256] i3))) := by
  intro r c f h
  rw [chunk_apply]
  have e1 (k : Fin 1024) := ld_cols (n := 1024) (e := .bf16) wg o i1 k c f h
  have e2 (k : Fin 1024) := ld_cols (n := 1024) (e := .bf16) wu o i1 k c f h
  have e3 (k : Fin 3) := ld_cols (n := 3) (e := .f32) cw o i2 k c f h
  have e4 (k : Fin 1) := ld_cols (n := 1) (e := .f32) cb o i3 k c f h
  simp only [e1, e2, e3, e4]
  rfl

theorem scratch_eq {sg : RefSig} (v : View sg .tc .vmem S1024x2816 .bf16) (G : FVec Ideal S1024x2816 .bf16) (i0 i1 i2 i3 i4 i5 i6 i7 i8 i9 i10) (iL)
    (P0 P1 P2 P3 P4 P5 P6 P7 P8 P9 P10 : FVec Ideal S1024x256 .bf16)
    (q0 : Fits G 0 P0) (q1 : Fits G 256 P1) (q2 : Fits G 512 P2) (q3 : Fits G 768 P3) (q4 : Fits G 1024 P4) (q5 : Fits G 1280 P5) (q6 : Fits G 1536 P6) (q7 : Fits G 1792 P7) (q8 : Fits G 2048 P8) (q9 : Fits G 2304 P9) (q10 : Fits G 2560 P10) :
    v.readCov (Val := Elt Ideal) [⟨Rect.unit ![0, 2560] ![1024, 256] i10, P10⟩, ⟨Rect.unit ![0, 2304] ![1024, 256] i9, P9⟩, ⟨Rect.unit ![0, 2048] ![1024, 256] i8, P8⟩, ⟨Rect.unit ![0, 1792] ![1024, 256] i7, P7⟩, ⟨Rect.unit ![0, 1536] ![1024, 256] i6, P6⟩, ⟨Rect.unit ![0, 1280] ![1024, 256] i5, P5⟩, ⟨Rect.unit ![0, 1024] ![1024, 256] i4, P4⟩, ⟨Rect.unit ![0, 768] ![1024, 256] i3, P3⟩, ⟨Rect.unit ![0, 512] ![1024, 256] i2, P2⟩, ⟨Rect.unit ![0, 256] ![1024, 256] i1, P1⟩, ⟨Rect.unit ![0, 0] ![1024, 256] i0, P0⟩]
      (Rect.unit ![0, 0] ![1024, 2816] iL).toLoadRect = G := by
  have hcov : ∀ y : S1024x2816.Idx, ∃ p ∈ ([⟨Rect.unit ![0, 2560] ![1024, 256] i10, P10⟩, ⟨Rect.unit ![0, 2304] ![1024, 256] i9, P9⟩, ⟨Rect.unit ![0, 2048] ![1024, 256] i8, P8⟩, ⟨Rect.unit ![0, 1792] ![1024, 256] i7, P7⟩, ⟨Rect.unit ![0, 1536] ![1024, 256] i6, P6⟩, ⟨Rect.unit ![0, 1280] ![1024, 256] i5, P5⟩, ⟨Rect.unit ![0, 1024] ![1024, 256] i4, P4⟩, ⟨Rect.unit ![0, 768] ![1024, 256] i3, P3⟩, ⟨Rect.unit ![0, 512] ![1024, 256] i2, P2⟩, ⟨Rect.unit ![0, 256] ![1024, 256] i1, P1⟩, ⟨Rect.unit ![0, 0] ![1024, 256] i0, P0⟩] :
      List (View.Piece (Elt Ideal) S1024x2816 .bf16)), y ∈ p.1.set := by
    intro y
    have g0 : (y 0 : ℕ) < 1024 := (y 0).isLt
    have g1 : (y 1 : ℕ) < 2816 := (y 1).isLt
    rcases (by omega : (0 ≤ (y 1 : ℕ) ∧ (y 1 : ℕ) < 256) ∨ (256 ≤ (y 1 : ℕ) ∧ (y 1 : ℕ) < 512) ∨ (512 ≤ (y 1 : ℕ) ∧ (y 1 : ℕ) < 768) ∨ (768 ≤ (y 1 : ℕ) ∧ (y 1 : ℕ) < 1024) ∨ (1024 ≤ (y 1 : ℕ) ∧ (y 1 : ℕ) < 1280) ∨ (1280 ≤ (y 1 : ℕ) ∧ (y 1 : ℕ) < 1536) ∨ (1536 ≤ (y 1 : ℕ) ∧ (y 1 : ℕ) < 1792) ∨ (1792 ≤ (y 1 : ℕ) ∧ (y 1 : ℕ) < 2048) ∨ (2048 ≤ (y 1 : ℕ) ∧ (y 1 : ℕ) < 2304) ∨ (2304 ≤ (y 1 : ℕ) ∧ (y 1 : ℕ) < 2560) ∨ (2560 ≤ (y 1 : ℕ) ∧ (y 1 : ℕ) < 2816)) with h | h | h | h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), (Rect.mem_set_unit (inb := i0)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), (Rect.mem_set_unit (inb := i1)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), (Rect.mem_set_unit (inb := i2)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), (Rect.mem_set_unit (inb := i3)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ (List.mem_cons_of_mem _ (List.mem_cons_of_mem _ (List.mem_cons_of_mem _ List.mem_cons_self))))), (Rect.mem_set_unit (inb := i4)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ (List.mem_cons_of_mem _ (List.mem_cons_of_mem _ List.mem_cons_self)))), (Rect.mem_set_unit (inb := i5)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ (List.mem_cons_of_mem _ List.mem_cons_self))), (Rect.mem_set_unit (inb := i6)).2 fun a => ?_⟩
      fin_cases a
      · exact ⟨by simp, by simpa using g0⟩
      · exact ⟨by simpa using h.1, by simpa using h.2⟩
    · refine ⟨_, List.mem_cons_of_mem _ (List.mem_cons_of_mem _ (List.mem_cons_of_mem _ List.mem_cons_self)), (Rect.mem_set_unit (inb := i7)).2 fun a => ?_⟩
      fin_cases a
      · exact ⟨by simp, by simpa using g0⟩
      · exact ⟨by simpa using h.1, by simpa using h.2⟩
    · refine ⟨_, List.mem_cons_of_mem _ (List.mem_cons_of_mem _ List.mem_cons_self), (Rect.mem_set_unit (inb := i8)).2 fun a => ?_⟩
      fin_cases a
      · exact ⟨by simp, by simpa using g0⟩
      · exact ⟨by simpa using h.1, by simpa using h.2⟩
    · refine ⟨_, List.mem_cons_of_mem _ List.mem_cons_self, (Rect.mem_set_unit (inb := i9)).2 fun a => ?_⟩
      fin_cases a
      · exact ⟨by simp, by simpa using g0⟩
      · exact ⟨by simpa using h.1, by simpa using h.2⟩
    · refine ⟨_, List.mem_cons_self, (Rect.mem_set_unit (inb := i10)).2 fun a => ?_⟩
      fin_cases a
      · exact ⟨by simp, by simpa using g0⟩
      · exact ⟨by simpa using h.1, by simpa using h.2⟩
  rw [View.readCov_eq_canon_ld _ _ _ hcov, View.ld_unit_zero (by decide)]
  funext y
  canon_tiles x h using hcov y
  · rw [eq_ix2 x]
    refine (q10 (x 0) (x 1) (y 1) (by omega)).trans (congrArg G ?_)
    exact (congrArg₂ ix2 (Fin.ext (by omega)) rfl).trans (eq_ix2 y).symm
  · rw [eq_ix2 x]
    refine (q9 (x 0) (x 1) (y 1) (by omega)).trans (congrArg G ?_)
    exact (congrArg₂ ix2 (Fin.ext (by omega)) rfl).trans (eq_ix2 y).symm
  · rw [eq_ix2 x]
    refine (q8 (x 0) (x 1) (y 1) (by omega)).trans (congrArg G ?_)
    exact (congrArg₂ ix2 (Fin.ext (by omega)) rfl).trans (eq_ix2 y).symm
  · rw [eq_ix2 x]
    refine (q7 (x 0) (x 1) (y 1) (by omega)).trans (congrArg G ?_)
    exact (congrArg₂ ix2 (Fin.ext (by omega)) rfl).trans (eq_ix2 y).symm
  · rw [eq_ix2 x]
    refine (q6 (x 0) (x 1) (y 1) (by omega)).trans (congrArg G ?_)
    exact (congrArg₂ ix2 (Fin.ext (by omega)) rfl).trans (eq_ix2 y).symm
  · rw [eq_ix2 x]
    refine (q5 (x 0) (x 1) (y 1) (by omega)).trans (congrArg G ?_)
    exact (congrArg₂ ix2 (Fin.ext (by omega)) rfl).trans (eq_ix2 y).symm
  · rw [eq_ix2 x]
    refine (q4 (x 0) (x 1) (y 1) (by omega)).trans (congrArg G ?_)
    exact (congrArg₂ ix2 (Fin.ext (by omega)) rfl).trans (eq_ix2 y).symm
  · rw [eq_ix2 x]
    refine (q3 (x 0) (x 1) (y 1) (by omega)).trans (congrArg G ?_)
    exact (congrArg₂ ix2 (Fin.ext (by omega)) rfl).trans (eq_ix2 y).symm
  · rw [eq_ix2 x]
    refine (q2 (x 0) (x 1) (y 1) (by omega)).trans (congrArg G ?_)
    exact (congrArg₂ ix2 (Fin.ext (by omega)) rfl).trans (eq_ix2 y).symm
  · rw [eq_ix2 x]
    refine (q1 (x 0) (x 1) (y 1) (by omega)).trans (congrArg G ?_)
    exact (congrArg₂ ix2 (Fin.ext (by omega)) rfl).trans (eq_ix2 y).symm
  · rw [eq_ix2 x]
    refine (q0 (x 0) (x 1) (y 1) (by omega)).trans (congrArg G ?_)
    exact (congrArg₂ ix2 (Fin.ext (by omega)) rfl).trans (eq_ix2 y).symm

/-- Row `s` of the stack after the mixer's norm. -/
def xrow (x0 : FVec Ideal S1024x1024 .f32) (x1 x2 : FVec Ideal S16x1024 .f32) (x3 : FVec Ideal S1024x1024 .bf16) (x4 x5 : FVec Ideal S16x1024 .bf16)
    (x6 : FVec Ideal S1024x1024 .bf16) (x7 x8 : FVec Ideal S1x1024 .f32) (s : Fin 1056) : Fin 1024 → EReal :=
  mixed (stack x1 x0 x2 s) (stack x4 x3 x5 s) (fun k j => x6 (ix2 k j)) (fun j => x7 (ix2 0 j)) (fun j => x8 (ix2 0 j))

/-- The gated activations of row `r` of a tile. -/
def gate (z : Bool) (X : Fin 1056 → Fin 1024 → EReal) (wg wu : FVec Ideal S1024x2816 .bf16) (cw : FVec Ideal S3x2816 .f32) (cb : FVec Ideal S1x2816 .f32)
    (r : Fin 1024) (f : Fin 2816) : EReal :=
  act (conv (cb (ix2 0 f)) (cw (ix2 0 f)) (cw (ix2 1 f)) (cw (ix2 2 f))
      (∑ k, (if inside z ⟨r.val + 15, by omega⟩ then X ⟨r.val + 15, by omega⟩ k else 0) * wg (ix2 k f))
      (∑ k, X ⟨r.val + 16, by omega⟩ k * wg (ix2 k f))
      (∑ k, (if inside z ⟨r.val + 17, by omega⟩ then X ⟨r.val + 17, by omega⟩ k else 0) * wg (ix2 k f)))
    * ∑ k, X ⟨r.val + 16, by omega⟩ k * wu (ix2 k f)

theorem inside_mid (z : Bool) (r : Fin 1024) : inside z ⟨r.val + 16, by omega⟩ := by
  unfold inside; split <;> simp <;> omega

theorem pay8_apply (v0 v22 v24 v30 v33 c) (r j : Fin 1024) :
    k0_pay8 (F := Ideal) v0 v22 v24 v30 v33 c (ix2 r j) = k0_pay7 (F := Ideal) v0 v22 v24 v30 v33 c (ix2 (⟨r.val + 16, by omega⟩ : Fin 1056) j) := by
  pointwise [k0_pay8, k0_pay7]
  simp only [Nat.add_comm 16]

theorem pay9_apply (v22 v24 v30 v33 c) (r j : Fin 1024) :
    k0_pay9 (F := Ideal) v22 v24 v30 v33 c (ix2 r j) = k0_pay6 (F := Ideal) v22 v24 v30 v33 c (ix2 (⟨r.val + 16, by omega⟩ : Fin 1056) j) := by
  pointwise [k0_pay9, k0_pay6]
  simp only [Nat.add_comm 16]

/-- The activations of masked rows are those of the rows themselves, the rows outside the sequence at zero. -/
theorem gates_of (z : Bool) (v61 : FVec Ideal S1056x1024 .bf16) (v62 : FVec Ideal S1024x1024 .bf16) (X : Fin 1056 → Fin 1024 → EReal)
    (h61 : ∀ s k, v61 (ix2 s k) = if inside z s then X s k else 0) (h62 : ∀ (r : Fin 1024) (k : Fin 1024), v62 (ix2 r k) = v61 (ix2 (⟨r.val + 16, by omega⟩ : Fin 1056) k))
    (wg wu : FVec Ideal S1024x2816 .bf16) (cw : FVec Ideal S3x2816 .f32) (cb : FVec Ideal S1x2816 .f32) (r : Fin 1024) (f : Fin 2816) :
    gates v61 v62 wg wu cw cb (ix2 r f) = gate z X wg wu cw cb r f := by
  have e6 (k) : v61 (ix2 (⟨r.val + 16, by omega⟩ : Fin 1056) k) = X ⟨r.val + 16, by omega⟩ k := by
    rw [h61, if_pos (inside_mid z r)]
  have e8 (k) : v62 (ix2 r k) = X ⟨r.val + 16, by omega⟩ k := by rw [h62, e6]
  rw [gates_apply]
  simp only [e6, e8]
  simp only [h61]
  rfl

/-- The same of the kernel's rows after the mixer's norm. -/
theorem gates_eq (z : Bool) (v22 v24 v30 v33 c) (X : Fin 1056 → Fin 1024 → EReal) (hX : ∀ s j, k0_pay6 (F := Ideal) v22 v24 v30 v33 c (ix2 s j) = X s j)
    (wg wu : FVec Ideal S1024x2816 .bf16) (cw : FVec Ideal S3x2816 .f32) (cb : FVec Ideal S1x2816 .f32) (r : Fin 1024) (f : Fin 2816) :
    gates (k0_pay7 (F := Ideal) (half z) v22 v24 v30 v33 c) (k0_pay8 (F := Ideal) (half z) v22 v24 v30 v33 c) wg wu cw cb (ix2 r f)
    = gate z X wg wu cw cb r f :=
  gates_of z _ _ X (fun s k => by rw [pay7_apply, hX]) (fun r k => pay8_apply _ _ _ _ _ _ r k) wg wu cw cb r f

/-- The activations of a tile's row are those of its position `q`, when the rows of the stack that the sequence has are the sequence's:
    `o` is where the tile begins in its sequence. -/
theorem gate_row (z : Bool) (o : ℕ) (ho : o = if z then 0 else 1024) (X : Fin 1056 → Fin 1024 → EReal) (Y : Fin 2048 → Fin 1024 → EReal)
    (hX : ∀ (s : Fin 1056) (q : Fin 2048), inside z s → q.val + 16 = o + s.val → X s = Y q)
    (wg wu : FVec Ideal S1024x2816 .bf16) (cw : FVec Ideal S3x2816 .f32) (cb : FVec Ideal S1x2816 .f32) (r : Fin 1024) (q : Fin 2048) (hq : q.val = o + r.val)
    (f : Fin 2816) : gate z X wg wu cw cb r f
    = rowH Y (fun k f => wg (ix2 k f)) (fun k f => wu (ix2 k f)) (fun k f => cw (ix2 k f)) (fun f => cb (ix2 0 f)) q f := by
  have em : X ⟨r.val + 16, by omega⟩ = Y q := hX _ q (inside_mid z r) (by show q.val + 16 = o + (r.val + 16); omega)
  unfold gate rowH
  simp only [em]
  refine congrArg (· * _) (congrArg act (congr (congrArg (fun a => conv _ _ _ _ a _) ?_) ?_))
  · by_cases h : 1 ≤ q.val
    · have hi : inside z ⟨r.val + 15, by omega⟩ := by
        unfold inside
        cases z <;> simp at ho ⊢ <;> omega
      have ep : X ⟨r.val + 15, by omega⟩ = Y ⟨q.val - 1, by omega⟩ := hX _ _ hi (by show q.val - 1 + 16 = o + (r.val + 15); omega)
      rw [dif_pos h]
      simp only [if_pos hi, ep]
    · have hi : ¬ inside z ⟨r.val + 15, by omega⟩ := by
        unfold inside
        cases z <;> simp at ho ⊢ <;> omega
      rw [dif_neg h]
      simp only [if_neg hi, zero_mul, Finset.sum_const_zero]
  · by_cases h : q.val + 1 < 2048
    · have hi : inside z ⟨r.val + 17, by omega⟩ := by
        unfold inside
        cases z <;> simp at ho ⊢ <;> omega
      have ep : X ⟨r.val + 17, by omega⟩ = Y ⟨q.val + 1, h⟩ := hX _ _ hi (by show q.val + 1 + 16 = o + (r.val + 17); omega)
      rw [dif_pos h]
      simp only [if_pos hi, ep]
    · have hi : ¬ inside z ⟨r.val + 17, by omega⟩ := by
        unfold inside
        cases z <;> simp at ho ⊢ <;> omega
      rw [dif_neg h]
      simp only [if_neg hi, zero_mul, Finset.sum_const_zero]

theorem half_eq : ∀ t : Fin cfg0.N, Scalar.remsi (BitVec.ofNat 32 ((grid0.coords t) 0).val) 2#32 = half (decide (t.val % 2 = 0)) :=
  (by decide +kernel : ∀ t : Fin grid0.N, _)

theorem block (c : Dev nD) (t : Fin cfg0.N) (y : S1024x1024.Idx) :
    outsAt0 (F := Ideal) m c t y = last (xrow (iblk m c 0 t) (iblk m c 1 t) (iblk m c 2 t) (iblk m c 3 t) (iblk m c 4 t) (iblk m c 5 t) (iblk m c 6 t) (iblk m c 7 t) (iblk m c 8 t) ⟨(y 0).val + 16, by have := (y 0).isLt; simp at this; omega⟩)
      (gate (decide (t.val % 2 = 0)) (xrow (iblk m c 0 t) (iblk m c 1 t) (iblk m c 2 t) (iblk m c 3 t) (iblk m c 4 t) (iblk m c 5 t) (iblk m c 6 t) (iblk m c 7 t) (iblk m c 8 t))
        (iblk m c 10 t) (iblk m c 11 t) (iblk m c 12 t) (iblk m c 13 t) (y 0))
      (fun f j => iblk m c 14 t (ix2 f j)) (fun j => iblk m c 15 t (ix2 0 j)) (fun j => iblk m c 16 t (ix2 0 j)) (fun k => iblk m c 9 t (ix2 (y 0) k))
      (fun k j => iblk m c 17 t (ix2 k j)) (fun k j => iblk m c 18 t (ix2 k j)) (y 1) := by
  unfold outsAt0
  frame_out
  rw [half_eq t, eq_ix2 y]
  rw [scratch_eq _ (gates (k0_pay7 (F := Ideal) (half (decide (t.val % 2 = 0))) (k0_pay2 (iblk m c 7 t)) (k0_pay3 (iblk m c 8 t))
      (k0_pay4 (iblk m c 4 t) (iblk m c 3 t) (iblk m c 5 t) (iblk m c 6 t) (iblk m c 1 t) (iblk m c 0 t) (iblk m c 2 t))
      (k0_pay5 (iblk m c 4 t) (iblk m c 3 t) (iblk m c 5 t) (iblk m c 6 t) (iblk m c 1 t) (iblk m c 0 t) (iblk m c 2 t)) (FloatOps.ofBits (F := Ideal) .f32 0x44800000#32))
    (k0_pay8 (F := Ideal) (half (decide (t.val % 2 = 0))) (k0_pay2 (iblk m c 7 t)) (k0_pay3 (iblk m c 8 t))
      (k0_pay4 (iblk m c 4 t) (iblk m c 3 t) (iblk m c 5 t) (iblk m c 6 t) (iblk m c 1 t) (iblk m c 0 t) (iblk m c 2 t))
      (k0_pay5 (iblk m c 4 t) (iblk m c 3 t) (iblk m c 5 t) (iblk m c 6 t) (iblk m c 1 t) (iblk m c 0 t) (iblk m c 2 t)) (FloatOps.ofBits (F := Ideal) .f32 0x44800000#32))
    (iblk m c 10 t) (iblk m c 11 t) (iblk m c 12 t) (iblk m c 13 t))]
  · refine (result_apply _ _ _ _ _ _ _ _ (y 0) (y 1)).trans ?_
    refine congrFun (congr (congr (congr (congr (congr (congr (congr (congrArg last ?_) ?_) rfl) rfl) rfl) rfl) rfl) rfl) _
    · funext j
      exact (pay9_apply _ _ _ _ _ _ _).trans (pay6_mixed _ _ _ _ _ _ _ _ _ _ _)
    · funext f
      exact gates_eq _ _ _ _ _ _ _ (fun s j => pay6_mixed _ _ _ _ _ _ _ _ _ s j) _ _ _ _ _ _
  · rw [chunk0]; exact chunk_fits _ _ _ _ _ _ _ _ _ _
  · rw [chunk1]; exact chunk_fits _ _ _ _ _ _ _ _ _ _
  · rw [chunk2]; exact chunk_fits _ _ _ _ _ _ _ _ _ _
  · rw [chunk3]; exact chunk_fits _ _ _ _ _ _ _ _ _ _
  · rw [chunk4]; exact chunk_fits _ _ _ _ _ _ _ _ _ _
  · rw [chunk5]; exact chunk_fits _ _ _ _ _ _ _ _ _ _
  · exact chunk_fits _ _ _ _ _ _ _ _ _ _
  · rw [chunk7]; exact chunk_fits _ _ _ _ _ _ _ _ _ _
  · rw [chunk8]; exact chunk_fits _ _ _ _ _ _ _ _ _ _
  · rw [chunk9]; exact chunk_fits _ _ _ _ _ _ _ _ _ _
  · rw [chunk10]; exact chunk_fits _ _ _ _ _ _ _ _ _ _

end Cert.TailIdeal.Tile

end
-- ==== Proof.TailValue.lean ====
/- The blocks the kernel of the layer's last part is given, and its whole result. -/
module

public import proofs.«01_k».proof.Proof.TailBlock

@[expose] public section

set_option maxRecDepth 16384

noncomputable section

namespace Cert.TailIdeal.Tile

open Idealize.ShloMosaic Idealize.ShloMosaic.TcCoe Idealize.SL.Sem
open Cert.TailIdeal Cert.TailIdeal.Gen Cert.Rows

variable (m : (ℓ : Loc nD τ sig) → Buf (Elt Ideal) ℓ)

theorem idx : ∀ t : Fin cfg0.N, win0_0.index t = ![t.val, 0]
    ∧ win0_1.index t = ![64 * t.val - 1, 0]
    ∧ win0_2.index t = ![min (64 * (t.val + 1)) 2047, 0]
    ∧ win0_3.index t = ![t.val, 0]
    ∧ win0_4.index t = ![64 * t.val - 1, 0]
    ∧ win0_5.index t = ![min (64 * (t.val + 1)) 2047, 0]
    ∧ win0_6.index t = ![0, 0]
    ∧ win0_7.index t = ![0, 0]
    ∧ win0_8.index t = ![0, 0]
    ∧ win0_9.index t = ![t.val, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![t.val, 0] :=
  (by decide +kernel : ∀ t : Fin grid0.N, _)

theorem t_lt (t : Fin cfg0.N) : t.val < 32 := lt_of_lt_of_eq t.isLt N_0

/-! The blocks, as parts of their arrays. -/

theorem rd0 (X : FVec Ideal S32768x1024 .f32) (t : Fin cfg0.N) (r : Fin 1024) (k : Fin 1024) :
    ((cfg0.win 0).blk t).view.read (Elt Ideal) X (ix2 r k) = X (ix2 ⟨t.val * 1024 + r.val, by have := t_lt t; omega⟩ k) := by
  blk_ext [idx t]

theorem iblk0 (c : Dev nD) (t : Fin cfg0.N) (r : Fin 1024) (k : Fin 1024) : iblk m c 0 t (ix2 r k) = V m c main_v0 (ix2 ⟨t.val * 1024 + r.val, by have := t_lt t; omega⟩ k) := by
  exact rd0 (V m c main_v0) t r k

theorem rd1 (X : FVec Ideal S32768x1024 .f32) (t : Fin cfg0.N) (r : Fin 16) (k : Fin 1024) :
    ((cfg0.win 1).blk t).view.read (Elt Ideal) X (ix2 r k) = X (ix2 ⟨(64 * t.val - 1) * 16 + r.val, by have := t_lt t; omega⟩ k) := by
  blk_ext [idx t]

theorem iblk1 (c : Dev nD) (t : Fin cfg0.N) (r : Fin 16) (k : Fin 1024) : iblk m c 1 t (ix2 r k) = V m c main_v0 (ix2 ⟨(64 * t.val - 1) * 16 + r.val, by have := t_lt t; omega⟩ k) := by
  exact rd1 (V m c main_v0) t r k

theorem rd2 (X : FVec Ideal S32768x1024 .f32) (t : Fin cfg0.N) (r : Fin 16) (k : Fin 1024) :
    ((cfg0.win 2).blk t).view.read (Elt Ideal) X (ix2 r k) = X (ix2 ⟨min (64 * (t.val + 1)) 2047 * 16 + r.val, by have := t_lt t; omega⟩ k) := by
  blk_ext [idx t]

theorem iblk2 (c : Dev nD) (t : Fin cfg0.N) (r : Fin 16) (k : Fin 1024) : iblk m c 2 t (ix2 r k) = V m c main_v0 (ix2 ⟨min (64 * (t.val + 1)) 2047 * 16 + r.val, by have := t_lt t; omega⟩ k) := by
  exact rd2 (V m c main_v0) t r k

theorem rd3 (X : FVec Ideal S32768x1024 .bf16) (t : Fin cfg0.N) (r : Fin 1024) (k : Fin 1024) :
    ((cfg0.win 3).blk t).view.read (Elt Ideal) X (ix2 r k) = X (ix2 ⟨t.val * 1024 + r.val, by have := t_lt t; omega⟩ k) := by
  blk_ext [idx t]

theorem iblk3 (c : Dev nD) (t : Fin cfg0.N) (r : Fin 1024) (k : Fin 1024) : iblk m c 3 t (ix2 r k) = V m c main_v2 (ix2 ⟨t.val * 1024 + r.val, by have := t_lt t; omega⟩ k) := by
  exact rd3 (V m c main_v2) t r k

theorem rd4 (X : FVec Ideal S32768x1024 .bf16) (t : Fin cfg0.N) (r : Fin 16) (k : Fin 1024) :
    ((cfg0.win 4).blk t).view.read (Elt Ideal) X (ix2 r k) = X (ix2 ⟨(64 * t.val - 1) * 16 + r.val, by have := t_lt t; omega⟩ k) := by
  blk_ext [idx t]

theorem iblk4 (c : Dev nD) (t : Fin cfg0.N) (r : Fin 16) (k : Fin 1024) : iblk m c 4 t (ix2 r k) = V m c main_v2 (ix2 ⟨(64 * t.val - 1) * 16 + r.val, by have := t_lt t; omega⟩ k) := by
  exact rd4 (V m c main_v2) t r k

theorem rd5 (X : FVec Ideal S32768x1024 .bf16) (t : Fin cfg0.N) (r : Fin 16) (k : Fin 1024) :
    ((cfg0.win 5).blk t).view.read (Elt Ideal) X (ix2 r k) = X (ix2 ⟨min (64 * (t.val + 1)) 2047 * 16 + r.val, by have := t_lt t; omega⟩ k) := by
  blk_ext [idx t]

theorem iblk5 (c : Dev nD) (t : Fin cfg0.N) (r : Fin 16) (k : Fin 1024) : iblk m c 5 t (ix2 r k) = V m c main_v2 (ix2 ⟨min (64 * (t.val + 1)) 2047 * 16 + r.val, by have := t_lt t; omega⟩ k) := by
  exact rd5 (V m c main_v2) t r k

theorem rd6 (X : FVec Ideal S1024x1024 .bf16) (t : Fin cfg0.N) (r : Fin 1024) (k : Fin 1024) :
    ((cfg0.win 6).blk t).view.read (Elt Ideal) X (ix2 r k) = X (ix2 r k) := by
  blk_ext [idx t]

theorem iblk6 (c : Dev nD) (t : Fin cfg0.N) (r : Fin 1024) (k : Fin 1024) : iblk m c 6 t (ix2 r k) = V m c main_v3 (ix2 r k) := by
  exact rd6 (V m c main_v3) t r k

theorem rd7 (X : FVec Ideal S1x1024 .f32) (t : Fin cfg0.N) (r : Fin 1) (k : Fin 1024) :
    ((cfg0.win 7).blk t).view.read (Elt Ideal) X (ix2 r k) = X (ix2 r k) := by
  blk_ext [idx t]

theorem iblk7 (c : Dev nD) (t : Fin cfg0.N) (r : Fin 1) (k : Fin 1024) : iblk m c 7 t (ix2 r k) = V m c main_v4 (ix2 r k) := by
  exact rd7 (V m c main_v4) t r k

theorem rd8 (X : FVec Ideal S1x1024 .f32) (t : Fin cfg0.N) (r : Fin 1) (k : Fin 1024) :
    ((cfg0.win 8).blk t).view.read (Elt Ideal) X (ix2 r k) = X (ix2 r k) := by
  blk_ext [idx t]

theorem iblk8 (c : Dev nD) (t : Fin cfg0.N) (r : Fin 1) (k : Fin 1024) : iblk m c 8 t (ix2 r k) = V m c main_v5 (ix2 r k) := by
  exact rd8 (V m c main_v5) t r k

theorem rd9 (X : FVec Ideal S32768x256 .f32) (t : Fin cfg0.N) (r : Fin 1024) (k : Fin 256) :
    ((cfg0.win 9).blk t).view.read (Elt Ideal) X (ix2 r k) = X (ix2 ⟨t.val * 1024 + r.val, by have := t_lt t; omega⟩ k) := by
  blk_ext [idx t]

theorem iblk9 (c : Dev nD) (t : Fin cfg0.N) (r : Fin 1024) (k : Fin 256) : iblk m c 9 t (ix2 r k) = V m c main_v6 (ix2 ⟨t.val * 1024 + r.val, by have := t_lt t; omega⟩ k) := by
  exact rd9 (V m c main_v6) t r k

theorem rd10 (X : FVec Ideal S1024x2816 .bf16) (t : Fin cfg0.N) (r : Fin 1024) (k : Fin 2816) :
    ((cfg0.win 10).blk t).view.read (Elt Ideal) X (ix2 r k) = X (ix2 r k) := by
  blk_ext [idx t]

theorem iblk10 (c : Dev nD) (t : Fin cfg0.N) (r : Fin 1024) (k : Fin 2816) : iblk m c 10 t (ix2 r k) = V m c main_v7 (ix2 r k) := by
  exact rd10 (V m c main_v7) t r k

theorem rd11 (X : FVec Ideal S1024x2816 .bf16) (t : Fin cfg0.N) (r : Fin 1024) (k : Fin 2816) :
    ((cfg0.win 11).blk t).view.read (Elt Ideal) X (ix2 r k) = X (ix2 r k) := by
  blk_ext [idx t]

theorem iblk11 (c : Dev nD) (t : Fin cfg0.N) (r : Fin 1024) (k : Fin 2816) : iblk m c 11 t (ix2 r k) = V m c main_v8 (ix2 r k) := by
  exact rd11 (V m c main_v8) t r k

theorem rd12 (X : FVec Ideal S3x2816 .f32) (t : Fin cfg0.N) (r : Fin 3) (k : Fin 2816) :
    ((cfg0.win 12).blk t).view.read (Elt Ideal) X (ix2 r k) = X (ix2 r k) := by
  blk_ext [idx t]

theorem iblk12 (c : Dev nD) (t : Fin cfg0.N) (r : Fin 3) (k : Fin 2816) : iblk m c 12 t (ix2 r k) = V m c main_arg8 (ix2 r k) := by
  exact rd12 (V m c main_arg8) t r k

theorem rd13 (X : FVec Ideal S1x2816 .f32) (t : Fin cfg0.N) (r : Fin 1) (k : Fin 2816) :
    ((cfg0.win 13).blk t).view.read (Elt Ideal) X (ix2 r k) = X (ix2 r k) := by
  blk_ext [idx t]

theorem iblk13 (c : Dev nD) (t : Fin cfg0.N) (r : Fin 1) (k : Fin 2816) : iblk m c 13 t (ix2 r k) = V m c main_v9 (ix2 r k) := by
  exact rd13 (V m c main_v9) t r k

theorem rd14 (X : FVec Ideal S2816x1024 .bf16) (t : Fin cfg0.N) (r : Fin 2816) (k : Fin 1024) :
    ((cfg0.win 14).blk t).view.read (Elt Ideal) X (ix2 r k) = X (ix2 r k) := by
  blk_ext [idx t]

theorem iblk14 (c : Dev nD) (t : Fin cfg0.N) (r : Fin 2816) (k : Fin 1024) : iblk m c 14 t (ix2 r k) = V m c main_v10 (ix2 r k) := by
  exact rd14 (V m c main_v10) t r k

theorem rd15 (X : FVec Ideal S1x1024 .f32) (t : Fin cfg0.N) (r : Fin 1) (k : Fin 1024) :
    ((cfg0.win 15).blk t).view.read (Elt Ideal) X (ix2 r k) = X (ix2 r k) := by
  blk_ext [idx t]

theorem iblk15 (c : Dev nD) (t : Fin cfg0.N) (r : Fin 1) (k : Fin 1024) : iblk m c 15 t (ix2 r k) = V m c main_v11 (ix2 r k) := by
  exact rd15 (V m c main_v11) t r k

theorem rd16 (X : FVec Ideal S1x1024 .f32) (t : Fin cfg0.N) (r : Fin 1) (k : Fin 1024) :
    ((cfg0.win 16).blk t).view.read (Elt Ideal) X (ix2 r k) = X (ix2 r k) := by
  blk_ext [idx t]

theorem iblk16 (c : Dev nD) (t : Fin cfg0.N) (r : Fin 1) (k : Fin 1024) : iblk m c 16 t (ix2 r k) = V m c main_v12 (ix2 r k) := by
  exact rd16 (V m c main_v12) t r k

theorem rd17 (X : FVec Ideal S1024x1024 .bf16) (t : Fin cfg0.N) (r : Fin 1024) (k : Fin 1024) :
    ((cfg0.win 17).blk t).view.read (Elt Ideal) X (ix2 r k) = X (ix2 r k) := by
  blk_ext [idx t]

theorem iblk17 (c : Dev nD) (t : Fin cfg0.N) (r : Fin 1024) (k : Fin 1024) : iblk m c 17 t (ix2 r k) = V m c main_v13 (ix2 r k) := by
  exact rd17 (V m c main_v13) t r k

theorem rd18 (X : FVec Ideal S256x1024 .bf16) (t : Fin cfg0.N) (r : Fin 256) (k : Fin 1024) :
    ((cfg0.win 18).blk t).view.read (Elt Ideal) X (ix2 r k) = X (ix2 r k) := by
  blk_ext [idx t]

theorem iblk18 (c : Dev nD) (t : Fin cfg0.N) (r : Fin 256) (k : Fin 1024) : iblk m c 18 t (ix2 r k) = V m c main_v14 (ix2 r k) := by
  exact rd18 (V m c main_v14) t r k

/-! The launched arrays, by what they hold, and what the launch makes of them. -/

abbrev xOf (c : Dev nD) : Fin 16 → Fin 2048 → Fin 1024 → EReal := fun b s k => (m ((c : Thread nD τ).loc main_arg0) : FVec Ideal S16x2048x1024 .f32) (ix3 b s k)
abbrev oOf (c : Dev nD) : Fin 16 → Fin 2048 → Fin 1024 → EReal := fun b s k => (m ((c : Thread nD τ).loc main_arg1) : FVec Ideal S16x2048x1024 .f32) (ix3 b s k)
abbrev wOf (c : Dev nD) : Fin 1024 → Fin 1024 → EReal := fun k j => (m ((c : Thread nD τ).loc main_arg2) : FVec Ideal S1024x1024 .f32) (ix2 k j)
abbrev mgOf (c : Dev nD) : Fin 1024 → EReal := fun j => (m ((c : Thread nD τ).loc main_arg3) : FVec Ideal S1024 .f32) (ix1 j)
abbrev mbOf (c : Dev nD) : Fin 1024 → EReal := fun j => (m ((c : Thread nD τ).loc main_arg4) : FVec Ideal S1024 .f32) (ix1 j)
abbrev pOf (c : Dev nD) : Fin 16 → Fin 2048 → Fin 256 → EReal := fun b s k => (m ((c : Thread nD τ).loc main_arg5) : FVec Ideal S16x2048x256 .f32) (ix3 b s k)
abbrev wgOf (c : Dev nD) : Fin 1024 → Fin 2816 → EReal := fun k j => (m ((c : Thread nD τ).loc main_arg6) : FVec Ideal S1024x2816 .f32) (ix2 k j)
abbrev wuOf (c : Dev nD) : Fin 1024 → Fin 2816 → EReal := fun k j => (m ((c : Thread nD τ).loc main_arg7) : FVec Ideal S1024x2816 .f32) (ix2 k j)
abbrev cwOf (c : Dev nD) : Fin 3 → Fin 2816 → EReal := fun k j => (m ((c : Thread nD τ).loc main_arg8) : FVec Ideal S3x2816 .f32) (ix2 k j)
abbrev cbOf (c : Dev nD) : Fin 2816 → EReal := fun j => (m ((c : Thread nD τ).loc main_arg9) : FVec Ideal S2816 .f32) (ix1 j)
abbrev wdOf (c : Dev nD) : Fin 2816 → Fin 1024 → EReal := fun k j => (m ((c : Thread nD τ).loc main_arg10) : FVec Ideal S2816x1024 .f32) (ix2 k j)
abbrev fgOf (c : Dev nD) : Fin 1024 → EReal := fun j => (m ((c : Thread nD τ).loc main_arg11) : FVec Ideal S1024 .f32) (ix1 j)
abbrev fbOf (c : Dev nD) : Fin 1024 → EReal := fun j => (m ((c : Thread nD τ).loc main_arg12) : FVec Ideal S1024 .f32) (ix1 j)
abbrev pgOf (c : Dev nD) : Fin 1024 → Fin 1024 → EReal := fun k j => (m ((c : Thread nD τ).loc main_arg13) : FVec Ideal S1024x1024 .f32) (ix2 k j)
abbrev ppOf (c : Dev nD) : Fin 256 → Fin 1024 → EReal := fun k j => (m ((c : Thread nD τ).loc main_arg14) : FVec Ideal S256x1024 .f32) (ix2 k j)

theorem V_x (c : Dev nD) (R : Fin 32768) (k : Fin 1024) : V m c main_v0 (ix2 R k) = xOf m c ⟨R.val / 2048, by omega⟩ ⟨R.val % 2048, by omega⟩ k := by
  entry_read
  pointwise

theorem V_o (c : Dev nD) (R : Fin 32768) (k : Fin 1024) : V m c main_v2 (ix2 R k) = oOf m c ⟨R.val / 2048, by omega⟩ ⟨R.val % 2048, by omega⟩ k := by
  entry_read
  pointwise

theorem V_w (c : Dev nD) (k : Fin 1024) (j : Fin 1024) : V m c main_v3 (ix2 k j) = wOf m c k j := by
  entry_read
  pointwise

theorem V_mg (c : Dev nD) (j : Fin 1024) : V m c main_v4 (ix2 0 j) = mgOf m c j := by
  entry_read
  pointwise

theorem V_mb (c : Dev nD) (j : Fin 1024) : V m c main_v5 (ix2 0 j) = mbOf m c j := by
  entry_read
  pointwise

theorem V_p (c : Dev nD) (R : Fin 32768) (k : Fin 256) : V m c main_v6 (ix2 R k) = pOf m c ⟨R.val / 2048, by omega⟩ ⟨R.val % 2048, by omega⟩ k := by
  entry_read
  pointwise

theorem V_wg (c : Dev nD) (k : Fin 1024) (j : Fin 2816) : V m c main_v7 (ix2 k j) = wgOf m c k j := by
  entry_read
  pointwise

theorem V_wu (c : Dev nD) (k : Fin 1024) (j : Fin 2816) : V m c main_v8 (ix2 k j) = wuOf m c k j := by
  entry_read
  pointwise

theorem V_cw (c : Dev nD) (k : Fin 3) (j : Fin 2816) : V m c main_arg8 (ix2 k j) = cwOf m c k j := by
  entry_read
  rfl

theorem V_cb (c : Dev nD) (j : Fin 2816) : V m c main_v9 (ix2 0 j) = cbOf m c j := by
  entry_read
  pointwise

theorem V_wd (c : Dev nD) (k : Fin 2816) (j : Fin 1024) : V m c main_v10 (ix2 k j) = wdOf m c k j := by
  entry_read
  pointwise

theorem V_fg (c : Dev nD) (j : Fin 1024) : V m c main_v11 (ix2 0 j) = fgOf m c j := by
  entry_read
  pointwise

theorem V_fb (c : Dev nD) (j : Fin 1024) : V m c main_v12 (ix2 0 j) = fbOf m c j := by
  entry_read
  pointwise

theorem V_pg (c : Dev nD) (k : Fin 1024) (j : Fin 1024) : V m c main_v13 (ix2 k j) = pgOf m c k j := by
  entry_read
  pointwise

theorem V_pp (c : Dev nD) (k : Fin 256) (j : Fin 1024) : V m c main_v14 (ix2 k j) = ppOf m c k j := by
  entry_read
  pointwise

/-! The rows. -/

theorem stack_x (c : Dev nD) (t : Fin cfg0.N) (s : Fin 1056) (k : Fin 1024) (h : inside (decide (t.val % 2 = 0)) s) (R : Fin 32768) (hR : R.val + 16 = t.val * 1024 + s.val) :
    stack (φ := .f32) (iblk m c 1 t) (iblk m c 0 t) (iblk m c 2 t) s k = V m c main_v0 (ix2 R k) := by
  have ht := t_lt t
  have h' : (t.val % 2 = 0 → 16 ≤ s.val) ∧ (¬ t.val % 2 = 0 → s.val < 1040) := by
    unfold inside at h
    by_cases e : t.val % 2 = 0 <;> simp [e] at h ⊢ <;> omega
  unfold stack
  split
  · refine (iblk1 m c t _ k).trans (congrArg (fun R : Fin 32768 => V m c main_v0 (ix2 R k)) (Fin.ext ?_))
    show (64 * t.val - 1) * 16 + s.val = R.val
    omega
  · split
    · refine (iblk0 m c t _ k).trans (congrArg (fun R : Fin 32768 => V m c main_v0 (ix2 R k)) (Fin.ext ?_))
      show t.val * 1024 + (s.val - 16) = R.val
      omega
    · refine (iblk2 m c t _ k).trans (congrArg (fun R : Fin 32768 => V m c main_v0 (ix2 R k)) (Fin.ext ?_))
      show min (64 * (t.val + 1)) 2047 * 16 + (s.val - 16 - 1024) = R.val
      omega

theorem stack_o (c : Dev nD) (t : Fin cfg0.N) (s : Fin 1056) (k : Fin 1024) (h : inside (decide (t.val % 2 = 0)) s) (R : Fin 32768) (hR : R.val + 16 = t.val * 1024 + s.val) :
    stack (φ := .bf16) (iblk m c 4 t) (iblk m c 3 t) (iblk m c 5 t) s k = V m c main_v2 (ix2 R k) := by
  have ht := t_lt t
  have h' : (t.val % 2 = 0 → 16 ≤ s.val) ∧ (¬ t.val % 2 = 0 → s.val < 1040) := by
    unfold inside at h
    by_cases e : t.val % 2 = 0 <;> simp [e] at h ⊢ <;> omega
  unfold stack
  split
  · refine (iblk4 m c t _ k).trans (congrArg (fun R : Fin 32768 => V m c main_v2 (ix2 R k)) (Fin.ext ?_))
    show (64 * t.val - 1) * 16 + s.val = R.val
    omega
  · split
    · refine (iblk3 m c t _ k).trans (congrArg (fun R : Fin 32768 => V m c main_v2 (ix2 R k)) (Fin.ext ?_))
      show t.val * 1024 + (s.val - 16) = R.val
      omega
    · refine (iblk5 m c t _ k).trans (congrArg (fun R : Fin 32768 => V m c main_v2 (ix2 R k)) (Fin.ext ?_))
      show min (64 * (t.val + 1)) 2047 * 16 + (s.val - 16 - 1024) = R.val
      omega

/-- The normed rows of the whole sequence. -/
abbrev XOf (c : Dev nD) : Fin 16 → Fin 2048 → Fin 1024 → EReal := rowX (xOf m c) (oOf m c) (wOf m c) (mgOf m c) (mbOf m c)

/-- The normed row `s` of a tile's stack. -/
abbrev xr (c : Dev nD) (t : Fin cfg0.N) : Fin 1056 → Fin 1024 → EReal :=
  xrow (iblk m c 0 t) (iblk m c 1 t) (iblk m c 2 t) (iblk m c 3 t) (iblk m c 4 t) (iblk m c 5 t) (iblk m c 6 t) (iblk m c 7 t) (iblk m c 8 t)

theorem xrow_eq (c : Dev nD) (t : Fin cfg0.N) (s : Fin 1056) (h : inside (decide (t.val % 2 = 0)) s) (b : Fin 16) (q : Fin 2048)
    (hR : b.val * 2048 + q.val + 16 = t.val * 1024 + s.val) : xr m c t s = XOf m c b q := by
  have hb : (⟨(b.val * 2048 + q.val) / 2048, by omega⟩ : Fin 16) = b := Fin.ext (by show (b.val * 2048 + q.val) / 2048 = b.val; omega)
  have hq : (⟨(b.val * 2048 + q.val) % 2048, by omega⟩ : Fin 2048) = q := Fin.ext (by show (b.val * 2048 + q.val) % 2048 = q.val; omega)
  have ex (k) := (stack_x m c t s k h ⟨b.val * 2048 + q.val, by omega⟩ hR).trans (V_x m c _ k)
  have eo (k) := (stack_o m c t s k h ⟨b.val * 2048 + q.val, by omega⟩ hR).trans (V_o m c _ k)
  simp only [hb, hq] at ex eo
  show mixed _ _ _ _ _ = mixed _ _ _ _ _
  refine congr (congr (congr (congr (congrArg mixed ?_) ?_) ?_) ?_) ?_
  · funext k; exact ex k
  · funext k; exact eo k
  · funext k j; exact (iblk6 m c t k j).trans (V_w m c k j)
  · funext j; exact (iblk7 m c t 0 j).trans (V_mg m c j)
  · funext j; exact (iblk8 m c t 0 j).trans (V_mb m c j)

theorem gate_eq (c : Dev nD) (t : Fin cfg0.N) (r : Fin 1024) (b : Fin 16) (q : Fin 2048) (hR : b.val * 2048 + q.val = t.val * 1024 + r.val) (f : Fin 2816) :
    gate (decide (t.val % 2 = 0)) (xr m c t) (iblk m c 10 t) (iblk m c 11 t) (iblk m c 12 t) (iblk m c 13 t) r f
    = rowH (XOf m c b) (wgOf m c) (wuOf m c) (cwOf m c) (cbOf m c) q f := by
  have ht := t_lt t
  refine (gate_row _ (t.val * 1024 - b.val * 2048) ?_ _ (XOf m c b) (fun s q h hs => xrow_eq m c t s h b q (by omega)) _ _ _ _ r q (by omega) f).trans ?_
  · by_cases e : t.val % 2 = 0 <;> simp [e] <;> omega
  refine congrFun (congrFun (congr (congr (congr (congrArg (rowH _) ?_) ?_) ?_) ?_) _) _
  · funext k f; exact (iblk10 m c t k f).trans (V_wg m c k f)
  · funext k f; exact (iblk11 m c t k f).trans (V_wu m c k f)
  · funext k f; exact (iblk12 m c t k f).trans (V_cw m c k f)
  · funext f; exact (iblk13 m c t 0 f).trans (V_cb m c f)

/-- The kernel's result as a function of the launched arrays. -/
def arr (c : Dev nD) : FVec Ideal S32768x1024 .f32 := fun i =>
  tail (xOf m c) (oOf m c) (wOf m c) (mgOf m c) (mbOf m c) (pOf m c) (wgOf m c) (wuOf m c) (cwOf m c) (cbOf m c) (wdOf m c) (fgOf m c) (fbOf m c)
    (pgOf m c) (ppOf m c) ⟨(i 0).val / 2048, by have := (i 0).isLt; simp at this; omega⟩ ⟨(i 0).val % 2048, by omega⟩ (i 1)

theorem tile_eq (c : Dev nD) (t : Fin cfg0.N) (r j : Fin 1024) (R : Fin 32768) (hR : R.val = t.val * 1024 + r.val) :
    outsAt0 (F := Ideal) m c t (ix2 r j) = arr m c (ix2 R j) := by
  rw [block]
  have hb : (R.val / 2048) * 2048 + R.val % 2048 = t.val * 1024 + r.val := by omega
  unfold arr tail
  refine congrFun (congr (congr (congr (congr (congr (congr (congr (congrArg last ?_) ?_) ?_) ?_) ?_) ?_) ?_) ?_) _
  · exact xrow_eq m c t _ (inside_mid _ r) ⟨R.val / 2048, by omega⟩ ⟨R.val % 2048, by omega⟩
      (by show R.val / 2048 * 2048 + R.val % 2048 + 16 = t.val * 1024 + (r.val + 16); omega)
  · funext f; exact gate_eq m c t r ⟨R.val / 2048, by omega⟩ ⟨R.val % 2048, by omega⟩ hb f
  · funext f j; exact (iblk14 m c t f j).trans (V_wd m c f j)
  · funext j; exact (iblk15 m c t 0 j).trans (V_fg m c j)
  · funext j; exact (iblk16 m c t 0 j).trans (V_fb m c j)
  · funext k
    refine (iblk9 m c t r k).trans ((congrArg (fun R : Fin 32768 => V m c main_v6 (ix2 R k)) (Fin.ext hR.symm)).trans (V_p m c R k))
  · funext k j; exact (iblk17 m c t k j).trans (V_pg m c k j)
  · funext k j; exact (iblk18 m c t k j).trans (V_pp m c k j)

theorem final (c : Dev nD) : (dats m 0 c).arrAt 19 (cfgs 0).N = arr m c := by
  refine (dats m 0 c).arrAt_eq_of_covers 19 _ (by decide +kernel) fun t hf y => ?_
  blk_simp
  rw [after0_19]
  have ht := t_lt t
  refine ((congrArg (outsAt0 (F := Ideal) m c t) (eq_ix2 y)).trans
    (tile_eq m c t (y 0) (y 1) ⟨t.val * 1024 + (y 0).val, by have := (y 0).isLt; simp at this; omega⟩ rfl)).trans (congrArg (arr m c) ?_)
  blk_ext [idx t]

end Cert.TailIdeal.Tile

end
-- ==== Proof.TailRef.lean ====
/- The operations of the last part's reference, one stage at a time, read at an element. -/
module

public import proofs.«01_k».proof.Proof.Gen.TailRefIdeal.Read
public import proofs.«01_k».proof.Proof.Rows

@[expose] public section

set_option maxRecDepth 16384

noncomputable section

namespace Cert.TailRefIdeal.Tile

open Idealize.ShloMosaic Idealize.ShloMosaic.TcCoe Idealize.SL.Sem
open Cert.TailRefIdeal Cert.TailRefIdeal.Gen Cert.TailRefIdeal.Read Cert.Rows

/-- The mixer's output projected, and the row added. -/
def mixStage (x o : FVec Ideal S16x2048x1024 .f32) (w : FVec Ideal S1024x1024 .f32) : FVec Ideal S16x2048x1024 .f32 :=
  addf (mulf (broadcastInDim S16x2048x1024 ![] bcast_S_S16x2048x1024 (constant S_ .f32 0x3FB504F3#32)) x)
    (Host.dotGeneral (φ₁ := .f32) (φ₂ := .f32) dot_S16x2048x1024_S1024x1024_S16x2048x1024_2_0_01_1_n_n none o w)

theorem mixStage_apply (x o : FVec Ideal S16x2048x1024 .f32) (w : FVec Ideal S1024x1024 .f32) (b : Fin 16) (s : Fin 2048) (j : Fin 1024) :
    mixStage x o w (ix3 b s j) = Ideal.ofBits .f32 0x3FB504F3#32 * x (ix3 b s j) + ∑ k, o (ix3 b s k) * w (ix2 k j) := by
  pointwise [mixStage]

/-- The mean of each row. -/
def meanStage (z : FVec Ideal S16x2048x1024 .f32) : FVec Ideal S16x2048x1 .f32 :=
  Host.divf (broadcastInDim S16x2048x1 ![0, 1] bcast_S16x2048_S16x2048x1_0_1
    (Host.reduceAdd z (constant S_ .f32 0x00000000#32) reducesTo_S16x2048x1024_S16x2048_d2 h_S_))
    (broadcastInDim S16x2048x1 ![] bcast_S_S16x2048x1 (constant S_ .f32 0x44800000#32))

theorem meanStage_apply (z : FVec Ideal S16x2048x1024 .f32) (b : Fin 16) (s : Fin 2048) :
    meanStage z (ix3 b s 0) = mean fun k => z (ix3 b s k) := by
  pointwise [meanStage]
  simp only [mean]

/-- Each row less its mean. -/
def centreStage (z : FVec Ideal S16x2048x1024 .f32) (u : FVec Ideal S16x2048x1 .f32) : FVec Ideal S16x2048x1024 .f32 :=
  subf z (broadcastInDim S16x2048x1024 ![0, 1, 2] bcast_S16x2048x1_S16x2048x1024_0_1_2 u)

theorem centreStage_apply (z : FVec Ideal S16x2048x1024 .f32) (u : FVec Ideal S16x2048x1 .f32) (b : Fin 16) (s : Fin 2048) (j : Fin 1024) :
    centreStage z u (ix3 b s j) = z (ix3 b s j) - u (ix3 b s 0) := by
  pointwise [centreStage]

/-- A centred row over its deviation, under the gain and with the bias. -/
def scaleStage (z : FVec Ideal S16x2048x1024 .f32) (v : FVec Ideal S16x2048x1 .f32) (g h : FVec Ideal S1024 .f32) : FVec Ideal S16x2048x1024 .f32 :=
  addf (mulf (mulf z (broadcastInDim S16x2048x1024 ![0, 1, 2] bcast_S16x2048x1_S16x2048x1024_0_1_2
      (Host.rsqrt (addf v (broadcastInDim S16x2048x1 ![] bcast_S_S16x2048x1 (constant S_ .f32 0x3727C5AC#32))))))
      (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 h))

theorem scaleStage_apply (z : FVec Ideal S16x2048x1024 .f32) (v : FVec Ideal S16x2048x1 .f32) (g h : FVec Ideal S1024 .f32) (b : Fin 16) (s : Fin 2048) (j : Fin 1024) :
    scaleStage z v g h (ix3 b s j) = z (ix3 b s j) * Ideal.rsqrt (v (ix3 b s 0) + Ideal.ofBits .f32 0x3727C5AC#32) * g (ix1 j) + h (ix1 j) := by
  pointwise [scaleStage]

/-- Layer norm of every row. -/
def normStage (z : FVec Ideal S16x2048x1024 .f32) (g h : FVec Ideal S1024 .f32) : FVec Ideal S16x2048x1024 .f32 :=
  scaleStage (centreStage z (meanStage z)) (meanStage (mulf (centreStage z (meanStage z)) (centreStage z (meanStage z)))) g h

theorem normStage_apply (z : FVec Ideal S16x2048x1024 .f32) (g h : FVec Ideal S1024 .f32) (b : Fin 16) (s : Fin 2048) (j : Fin 1024) :
    normStage z g h (ix3 b s j) = norm (fun k => z (ix3 b s k)) (fun k => g (ix1 k)) (fun k => h (ix1 k)) j := by
  have e (k : Fin 1024) : mulf (centreStage z (meanStage z)) (centreStage z (meanStage z)) (ix3 b s k)
      = (z (ix3 b s k) - mean fun k => z (ix3 b s k)) * (z (ix3 b s k) - mean fun k => z (ix3 b s k)) := by
    show centreStage z (meanStage z) (ix3 b s k) * centreStage z (meanStage z) (ix3 b s k) = _
    rw [centreStage_apply, meanStage_apply]
  unfold normStage
  rw [scaleStage_apply, centreStage_apply, meanStage_apply, meanStage_apply]
  simp only [e]
  rfl

/-- A projection of every row to the feed-forward part's columns. -/
def upStage (x : FVec Ideal S16x2048x1024 .f32) (w : FVec Ideal S1024x2816 .f32) : FVec Ideal S16x2048x2816 .f32 :=
  Host.dotGeneral (φ₁ := .f32) (φ₂ := .f32) dot_S16x2048x1024_S1024x2816_S16x2048x2816_2_0_01_1_n_n none x w

theorem upStage_apply (x : FVec Ideal S16x2048x1024 .f32) (w : FVec Ideal S1024x2816 .f32) (b : Fin 16) (s : Fin 2048) (f : Fin 2816) :
    upStage x w (ix3 b s f) = ∑ k, x (ix3 b s k) * w (ix2 k f) := by
  pointwise [upStage]

/-- The gate's rows with a row of zeros before and after each sequence. -/
def padStage (a : FVec Ideal S16x2048x2816 .f32) : FVec Ideal S16x2050x2816 .f32 :=
  pad S16x2050x2816 ![0, 1, 0] ![0, 1, 0] ![0, 0, 0] a (sitofp .f32 (constantI S_ 32 0#32)) pads_S16x2048x2816_S16x2050x2816_000_110_000 h_S_

theorem padStage_apply (a : FVec Ideal S16x2048x2816 .f32) (b : Fin 16) (s : Fin 2050) (f : Fin 2816) :
    padStage a (ix3 b s f) = if h : 1 ≤ s.val ∧ s.val < 2049 then a (ix3 b ⟨s.val - 1, by omega⟩ f) else 0 := by
  have e0 : FloatOps.sitofp (F := Ideal) .f32 0#32 = 0 := by
    show (((0#32).toInt : ℝ) : EReal) = 0
    simp
  pointwise [padStage]
  rw [e0]
  by_cases h : 1 ≤ s.val ∧ s.val < 2049
  · rw [dif_pos h, dif_pos ⟨h.1, by omega⟩]
  · rw [dif_neg h, dif_neg fun h' => h ⟨h'.1, by omega⟩]

/-- The three rows under the convolution's weights. -/
def convStage (a : FVec Ideal S16x2050x2816 .f32) (w : FVec Ideal S3x2816 .f32) (h : FVec Ideal S2816 .f32) : FVec Ideal S16x2048x2816 .f32 :=
  addf (addf (addf (broadcastInDim S16x2048x2816 ![0, 1, 2] bcast_S1x1x2816_S16x2048x2816_0_1_2 (broadcastInDim S1x1x2816 ![2] bcast_S2816_S1x1x2816_2 h))
      (mulf (broadcastInDim S16x2048x2816 ![0, 1, 2] bcast_S1x1x2816_S16x2048x2816_0_1_2 (broadcastInDim S1x1x2816 ![2] bcast_S2816_S1x1x2816_2
          (shapeCast _ (extractStridedSlice S1x2816 ![0, 0] w slices_S3x2816_S1x2816_0_0) shapeCasts_S1x2816_S2816)))
        (extractStridedSlice S16x2048x2816 ![0, 0, 0] a slices_S16x2050x2816_S16x2048x2816_0_0_0)))
      (mulf (broadcastInDim S16x2048x2816 ![0, 1, 2] bcast_S1x1x2816_S16x2048x2816_0_1_2 (broadcastInDim S1x1x2816 ![2] bcast_S2816_S1x1x2816_2
          (shapeCast _ (extractStridedSlice S1x2816 ![1, 0] w slices_S3x2816_S1x2816_1_0) shapeCasts_S1x2816_S2816)))
        (extractStridedSlice S16x2048x2816 ![0, 1, 0] a slices_S16x2050x2816_S16x2048x2816_0_1_0)))
    (mulf (broadcastInDim S16x2048x2816 ![0, 1, 2] bcast_S1x1x2816_S16x2048x2816_0_1_2 (broadcastInDim S1x1x2816 ![2] bcast_S2816_S1x1x2816_2
        (shapeCast _ (extractStridedSlice S1x2816 ![2, 0] w slices_S3x2816_S1x2816_2_0) shapeCasts_S1x2816_S2816)))
      (extractStridedSlice S16x2048x2816 ![0, 2, 0] a slices_S16x2050x2816_S16x2048x2816_0_2_0))

theorem convStage_apply (a : FVec Ideal S16x2050x2816 .f32) (w : FVec Ideal S3x2816 .f32) (h : FVec Ideal S2816 .f32) (b : Fin 16) (s : Fin 2048) (f : Fin 2816) :
    convStage a w h (ix3 b s f) = conv (h (ix1 f)) (w (ix2 0 f)) (w (ix2 1 f)) (w (ix2 2 f)) (a (ix3 b ⟨s.val, by omega⟩ f))
      (a (ix3 b ⟨s.val + 1, by omega⟩ f)) (a (ix3 b ⟨s.val + 2, by omega⟩ f)) := by
  pointwise [convStage]
  simp only [conv, Nat.add_comm 1, Nat.add_comm 2]

/-- The activation of the gate, times the other projection. -/
def hidStage (c u : FVec Ideal S16x2048x2816 .f32) : FVec Ideal S16x2048x2816 .f32 :=
  mulf (mulf c (mulf (broadcastInDim S16x2048x2816 ![] bcast_S_S16x2048x2816 (constant S_ .f32 0x3F000000#32))
    (addf (broadcastInDim S16x2048x2816 ![] bcast_S_S16x2048x2816 (constant S_ .f32 0x3F800000#32))
      (Host.tanh (mulf (broadcastInDim S16x2048x2816 ![] bcast_S_S16x2048x2816 (constant S_ .f32 0x3F4C422A#32))
        (addf c (mulf (broadcastInDim S16x2048x2816 ![] bcast_S_S16x2048x2816 (constant S_ .f32 0x3D372713#32)) (mulf (mulf c c) c)))))))) u

theorem hidStage_apply (c u : FVec Ideal S16x2048x2816 .f32) (b : Fin 16) (s : Fin 2048) (f : Fin 2816) :
    hidStage c u (ix3 b s f) = act (c (ix3 b s f)) * u (ix3 b s f) := by
  pointwise [hidStage]
  simp only [act]
  rw [mul_assoc (Ideal.ofBits .f32 0x3F000000#32), mul_left_comm (Ideal.ofBits .f32 0x3F000000#32)]

/-- The feed-forward part's projection back, and the row added. -/
def downStage (x : FVec Ideal S16x2048x1024 .f32) (h : FVec Ideal S16x2048x2816 .f32) (w : FVec Ideal S2816x1024 .f32) : FVec Ideal S16x2048x1024 .f32 :=
  addf (mulf (broadcastInDim S16x2048x1024 ![] bcast_S_S16x2048x1024 (constant S_ .f32 0x3FB504F3#32)) x)
    (Host.dotGeneral (φ₁ := .f32) (φ₂ := .f32) dot_S16x2048x2816_S2816x1024_S16x2048x1024_2_0_01_1_n_n none h w)

theorem downStage_apply (x : FVec Ideal S16x2048x1024 .f32) (h : FVec Ideal S16x2048x2816 .f32) (w : FVec Ideal S2816x1024 .f32) (b : Fin 16) (s : Fin 2048) (j : Fin 1024) :
    downStage x h w (ix3 b s j) = Ideal.ofBits .f32 0x3FB504F3#32 * x (ix3 b s j) + ∑ f, h (ix3 b s f) * w (ix2 f j) := by
  pointwise [downStage]

/-- The gated embedding added to each row. -/
def embedStage (x : FVec Ideal S16x2048x1024 .f32) (p : FVec Ideal S16x2048x256 .f32) (wg : FVec Ideal S1024x1024 .f32) (wp : FVec Ideal S256x1024 .f32) :
    FVec Ideal S32768x1024 .f32 :=
  shapeCast _ (addf x (mulf (Host.divf (broadcastInDim S16x2048x1024 ![] bcast_S_S16x2048x1024 (constant S_ .f32 0x3F800000#32))
      (addf (broadcastInDim S16x2048x1024 ![] bcast_S_S16x2048x1024 (constant S_ .f32 0x3F800000#32))
        (Host.exp (Host.negf (Host.dotGeneral (φ₁ := .f32) (φ₂ := .f32) dot_S16x2048x1024_S1024x1024_S16x2048x1024_2_0_01_1_n_n none x wg)))))
    (Host.dotGeneral (φ₁ := .f32) (φ₂ := .f32) dot_S16x2048x256_S256x1024_S16x2048x1024_2_0_01_1_n_n none p wp))) shapeCasts_S16x2048x1024_S32768x1024

theorem embedStage_apply (x : FVec Ideal S16x2048x1024 .f32) (p : FVec Ideal S16x2048x256 .f32) (wg : FVec Ideal S1024x1024 .f32) (wp : FVec Ideal S256x1024 .f32)
    (R : Fin 32768) (j : Fin 1024) :
    embedStage x p wg wp (ix2 R j) = x (ix3 ⟨R.val / 2048, by omega⟩ ⟨R.val % 2048, by omega⟩ j)
      + Ideal.logistic (∑ k, x (ix3 ⟨R.val / 2048, by omega⟩ ⟨R.val % 2048, by omega⟩ k) * wg (ix2 k j))
        * ∑ k, p (ix3 ⟨R.val / 2048, by omega⟩ ⟨R.val % 2048, by omega⟩ k) * wp (ix2 k j) := by
  pointwise [embedStage]
  rfl

theorem x_eq (x0 x1 : FVec Ideal S16x2048x1024 .f32) (x2 : FVec Ideal S1024x1024 .f32) (x3 x4 : FVec Ideal S1024 .f32) :
    val_main_v27 (F := Ideal) x0 x1 x2 x3 x4 = normStage (mixStage x0 x1 x2) x3 x4 := rfl

theorem conv_eq (x0 x1 : FVec Ideal S16x2048x1024 .f32) (x2 : FVec Ideal S1024x1024 .f32) (x3 x4 : FVec Ideal S1024 .f32) (x6 : FVec Ideal S1024x2816 .f32)
    (x8 : FVec Ideal S3x2816 .f32) (x9 : FVec Ideal S2816 .f32) :
    val_main_v55 (F := Ideal) x0 x1 x2 x3 x4 x6 x8 x9 = convStage (padStage (upStage (val_main_v27 (F := Ideal) x0 x1 x2 x3 x4) x6)) x8 x9 := rfl

theorem hid_eq (x0 x1 : FVec Ideal S16x2048x1024 .f32) (x2 : FVec Ideal S1024x1024 .f32) (x3 x4 : FVec Ideal S1024 .f32) (x6 x7 : FVec Ideal S1024x2816 .f32)
    (x8 : FVec Ideal S3x2816 .f32) (x9 : FVec Ideal S2816 .f32) :
    val_main_v69 (F := Ideal) x0 x1 x2 x3 x4 x6 x7 x8 x9 = hidStage (val_main_v55 (F := Ideal) x0 x1 x2 x3 x4 x6 x8 x9) (upStage (val_main_v27 (F := Ideal) x0 x1 x2 x3 x4) x7) := rfl

theorem y_eq (x0 x1 : FVec Ideal S16x2048x1024 .f32) (x2 : FVec Ideal S1024x1024 .f32) (x3 x4 : FVec Ideal S1024 .f32) (x6 x7 : FVec Ideal S1024x2816 .f32)
    (x8 : FVec Ideal S3x2816 .f32) (x9 : FVec Ideal S2816 .f32) (x10 : FVec Ideal S2816x1024 .f32) (x11 x12 : FVec Ideal S1024 .f32) :
    val_main_v95 (F := Ideal) x0 x1 x2 x3 x4 x6 x7 x8 x9 x10 x11 x12
    = normStage (downStage (val_main_v27 (F := Ideal) x0 x1 x2 x3 x4) (val_main_v69 (F := Ideal) x0 x1 x2 x3 x4 x6 x7 x8 x9) x10) x11 x12 := rfl

theorem out_eq (x0 x1 : FVec Ideal S16x2048x1024 .f32) (x2 : FVec Ideal S1024x1024 .f32) (x3 x4 : FVec Ideal S1024 .f32) (x5 : FVec Ideal S16x2048x256 .f32)
    (x6 x7 : FVec Ideal S1024x2816 .f32) (x8 : FVec Ideal S3x2816 .f32) (x9 : FVec Ideal S2816 .f32) (x10 : FVec Ideal S2816x1024 .f32) (x11 x12 : FVec Ideal S1024 .f32)
    (x13 : FVec Ideal S1024x1024 .f32) (x14 : FVec Ideal S256x1024 .f32) :
    val_main_v106 (F := Ideal) x0 x1 x2 x3 x4 x5 x6 x7 x8 x9 x10 x11 x12 x13 x14
    = embedStage (val_main_v95 (F := Ideal) x0 x1 x2 x3 x4 x6 x7 x8 x9 x10 x11 x12) x5 x13 x14 := rfl

/-- The reference's result, at an element. -/
theorem result_apply (x0 x1 : FVec Ideal S16x2048x1024 .f32) (x2 : FVec Ideal S1024x1024 .f32) (x3 x4 : FVec Ideal S1024 .f32) (x5 : FVec Ideal S16x2048x256 .f32)
    (x6 x7 : FVec Ideal S1024x2816 .f32) (x8 : FVec Ideal S3x2816 .f32) (x9 : FVec Ideal S2816 .f32) (x10 : FVec Ideal S2816x1024 .f32) (x11 x12 : FVec Ideal S1024 .f32)
    (x13 : FVec Ideal S1024x1024 .f32) (x14 : FVec Ideal S256x1024 .f32) (R : Fin 32768) (j : Fin 1024) :
    val_main_v106 (F := Ideal) x0 x1 x2 x3 x4 x5 x6 x7 x8 x9 x10 x11 x12 x13 x14 (ix2 R j)
    = tail (fun b s k => x0 (ix3 b s k)) (fun b s k => x1 (ix3 b s k)) (fun k j => x2 (ix2 k j)) (fun j => x3 (ix1 j)) (fun j => x4 (ix1 j))
        (fun b s k => x5 (ix3 b s k)) (fun k j => x6 (ix2 k j)) (fun k j => x7 (ix2 k j)) (fun k j => x8 (ix2 k j)) (fun j => x9 (ix1 j))
        (fun k j => x10 (ix2 k j)) (fun j => x11 (ix1 j)) (fun j => x12 (ix1 j)) (fun k j => x13 (ix2 k j)) (fun k j => x14 (ix2 k j))
        ⟨R.val / 2048, by omega⟩ ⟨R.val % 2048, by omega⟩ j := by
  have eX (b s k) : val_main_v27 (F := Ideal) x0 x1 x2 x3 x4 (ix3 b s k)
      = rowX (fun b s k => x0 (ix3 b s k)) (fun b s k => x1 (ix3 b s k)) (fun k j => x2 (ix2 k j)) (fun j => x3 (ix1 j)) (fun j => x4 (ix1 j)) b s k := by
    rw [x_eq, normStage_apply]
    simp only [mixStage_apply]
    rfl
  have eH (b s f) : val_main_v69 (F := Ideal) x0 x1 x2 x3 x4 x6 x7 x8 x9 (ix3 b s f)
      = rowH (fun s k => val_main_v27 (F := Ideal) x0 x1 x2 x3 x4 (ix3 b s k)) (fun k j => x6 (ix2 k j)) (fun k j => x7 (ix2 k j)) (fun k j => x8 (ix2 k j)) (fun j => x9 (ix1 j)) s f := by
    rw [hid_eq, hidStage_apply, conv_eq, convStage_apply, padStage_apply, padStage_apply, padStage_apply, upStage_apply]
    unfold rowH
    refine congrArg (· * _) (congrArg act (congr (congr (congrArg (conv _ _ _ _) ?_) ?_) ?_))
    · by_cases h : 1 ≤ s.val
      · rw [dif_pos h, dif_pos ⟨h, by show s.val < 2049; omega⟩, upStage_apply]
      · rw [dif_neg h, dif_neg fun h' => h h'.1]
    · rw [dif_pos ⟨by show 1 ≤ s.val + 1; omega, by show s.val + 1 < 2049; omega⟩, upStage_apply]
      rfl
    · by_cases h : s.val + 1 < 2048
      · rw [dif_pos h, dif_pos ⟨by show 1 ≤ s.val + 2; omega, by show s.val + 2 < 2049; omega⟩, upStage_apply]
        rfl
      · rw [dif_neg h, dif_neg fun h' => h (by have : s.val + 2 < 2049 := h'.2; omega)]
  have eX' (b) : (fun s k => val_main_v27 (F := Ideal) x0 x1 x2 x3 x4 (ix3 b s k))
      = rowX (fun b s k => x0 (ix3 b s k)) (fun b s k => x1 (ix3 b s k)) (fun k j => x2 (ix2 k j)) (fun j => x3 (ix1 j)) (fun j => x4 (ix1 j)) b := by
    funext s k; exact eX b s k
  have eY (b s j) := (congrFun (y_eq x0 x1 x2 x3 x4 x6 x7 x8 x9 x10 x11 x12) (ix3 b s j)).trans (normStage_apply _ _ _ b s j)
  simp only [downStage_apply, eH, eX', eX] at eY
  rw [out_eq, embedStage_apply]
  simp only [eY]
  rfl

end Cert.TailRefIdeal.Tile

end
-- ==== Proof.Tail0Run.lean ====
/- The kernel of layer 0's last part, its body run once over buffers that hold any values. The launch and the schedule are the generated ones. -/
module

public import proofs.«01_k».proof.Proof.Gen.Tail0Ideal.Frame.Runs

@[expose] public section

set_option maxRecDepth 16384

noncomputable section

namespace Cert.Tail0Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- One run of the body: on staging buffers that hold the inputs' blocks it ends with the inputs as they were, and with what it stored into the output
    and into the scratch as lists of pieces. -/
noncomputable def kernelRun0_A (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x256 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S256x1024 .bf16) (harg23 : arg23.IsWhole) (arg24 : Memref sig .tc .vmem S1024x1024 .f32) (harg24 : arg24.IsWhole) (arg25 : Memref sig .tc .vmem S1024x2816 .bf16) (harg25 : arg25.IsWhole)
    (x0 : Vec F S1024x1024 .f32) (x1 : Vec F S16x1024 .f32) (x2 : Vec F S16x1024 .f32) (x3 : Vec F S1024x512 .bf16) (x4 : Vec F S16x512 .bf16) (x5 : Vec F S16x512 .bf16) (x6 : Vec F S1024x512 .bf16) (x7 : Vec F S16x512 .bf16) (x8 : Vec F S16x512 .bf16) (x9 : Vec F S512x1024 .bf16) (x10 : Vec F S512x1024 .bf16) (x11 : Vec F S1x1024 .f32) (x12 : Vec F S1x1024 .f32) (x13 : Vec F S1024x256 .f32) (x14 : Vec F S1024x2816 .bf16) (x15 : Vec F S1024x2816 .bf16) (x16 : Vec F S3x2816 .f32) (x17 : Vec F S1x2816 .f32) (x18 : Vec F S2816x1024 .bf16) (x19 : Vec F S1x1024 .f32) (x20 : Vec F S1x1024 .f32) (x21 : Vec F S1024x1024 .bf16) (x22 : Vec F S256x1024 .bf16) :
    Σ' (L23 : List (View.Piece (Elt F) S1024x1024 .f32)), { LT0 : List (View.Piece (Elt F) S1024x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f LT0)) -∗ K ⟨⟩))
          ⊢ wp frame (wpE (defs₀ (F := F)) Variants.none c none) E (cc0_layer_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_layer_tail_eq_skeleton]; unfold cc0_layer_tail_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    iexists _; iexact HS0

end Cert.Tail0Ideal.Gen

end
-- ==== Proof.Tail0Frame.lean ====
/- The launch of layer 0's last part from the run of its body, over any values: what the arrays hold at the end, and the frame. -/
module

public import proofs.«01_k».proof.Proof.Tail0Run
public import Idealize.ShloMosaic.Lib.Claim

@[expose] public section

set_option maxRecDepth 16384

noncomputable section

namespace Cert.Tail0Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored into the output fill its block. -/
theorem cover0_A_23 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x256 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S256x1024 .bf16) (harg23 : arg23.IsWhole) (arg24 : Memref sig .tc .vmem S1024x1024 .f32) (harg24 : arg24.IsWhole) (arg25 : Memref sig .tc .vmem S1024x2816 .bf16) (harg25 : arg25.IsWhole)
    (x0 : Vec F S1024x1024 .f32) (x1 : Vec F S16x1024 .f32) (x2 : Vec F S16x1024 .f32) (x3 : Vec F S1024x512 .bf16) (x4 : Vec F S16x512 .bf16) (x5 : Vec F S16x512 .bf16) (x6 : Vec F S1024x512 .bf16) (x7 : Vec F S16x512 .bf16) (x8 : Vec F S16x512 .bf16) (x9 : Vec F S512x1024 .bf16) (x10 : Vec F S512x1024 .bf16) (x11 : Vec F S1x1024 .f32) (x12 : Vec F S1x1024 .f32) (x13 : Vec F S1024x256 .f32) (x14 : Vec F S1024x2816 .bf16) (x15 : Vec F S1024x2816 .bf16) (x16 : Vec F S3x2816 .f32) (x17 : Vec F S1x2816 .f32) (x18 : Vec F S2816x1024 .bf16) (x19 : Vec F S1x1024 .f32) (x20 : Vec F S1x1024 .f32) (x21 : Vec F S1024x1024 .bf16) (x22 : Vec F S256x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S1024x1024.size (by sl_kernel_rfl) y

/-- What the run leaves in the output's buffer. -/
def out0_A_23 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x256 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S256x1024 .bf16) (harg23 : arg23.IsWhole) (arg24 : Memref sig .tc .vmem S1024x1024 .f32) (harg24 : arg24.IsWhole) (arg25 : Memref sig .tc .vmem S1024x2816 .bf16) (harg25 : arg25.IsWhole)
    (x0 : Vec F S1024x1024 .f32) (x1 : Vec F S16x1024 .f32) (x2 : Vec F S16x1024 .f32) (x3 : Vec F S1024x512 .bf16) (x4 : Vec F S16x512 .bf16) (x5 : Vec F S16x512 .bf16) (x6 : Vec F S1024x512 .bf16) (x7 : Vec F S16x512 .bf16) (x8 : Vec F S16x512 .bf16) (x9 : Vec F S512x1024 .bf16) (x10 : Vec F S512x1024 .bf16) (x11 : Vec F S1x1024 .f32) (x12 : Vec F S1x1024 .f32) (x13 : Vec F S1024x256 .f32) (x14 : Vec F S1024x2816 .bf16) (x15 : Vec F S1024x2816 .bf16) (x16 : Vec F S3x2816 .f32) (x17 : Vec F S1x2816 .f32) (x18 : Vec F S2816x1024 .bf16) (x19 : Vec F S1x1024 .f32) (x20 : Vec F S1x1024 .f32) (x21 : Vec F S1024x1024 .bf16) (x22 : Vec F S256x1024 .bf16) : Vec F S1024x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-! ## What the outputs hold after each point -/

/-- The output's block after point `t`. -/
def outsAt0 (c : Dev nD) (t : Fin cfg0.N) : Vec F S1024x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-! ## The pipeline's proof data -/

/-- The pipeline's data: the arrays as the region finds them, and what each staging buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q w := Pipeline.shareOf spec0 w
  owed _ := 0

/-- The arrays are those at the region's entry. -/
theorem A_eq (c : Dev nD) (w : Fin cfg0.W) : (dats m 0 c).A w = V m c (Pipeline.arrRef spec0 w) := by
  dsimp only [dats]

/-- What each buffer holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t) := by dsimp only [dats]

/-- What each input's buffer holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point, from the run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_23
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  iintro ⟨H0, H1, H2, H3, H4, H5, H6, H7, H8, H9, H10, H11, H12, H13, H14, H15, H16, H17, H18, H19, H20, H21, H22, ⟨%e23, H23⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body called at point `t` is the kernel's at its buffers. -/
theorem defs₀_row (t : Fin cfg0.N) :
    defs₀ (F := F) .tc cfg0.body (cfg0.bodyArgs t (cfg0.slots t)) = bodyAt0 t := by
  unfold defs₀; rw [Defs.onTc_tc]

/-- The body is right at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole launch ends, with the arrays as the pipeline leaves them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

/-- The output after the run. -/
theorem post23 (r : PUnit × MemSt nD τ sig (Elt F)) (h : Pipeline.FramePost cfgs (dats m) 0 (V m) r) (c : Dev nD) :
    r.2.mem ((c : Thread nD τ).loc main_v19) = (dats m 0 c).arrAt 23 cfg0.N :=
  (h c).1 23

/-- The arguments after the run: nothing writes them. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 16).trans (((dats m 0 c).arrAt_in 16 rfl _).trans ((A_eq m c 16).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The launch with its output array named, and the arguments as they were. -/
theorem run_blocks : θ_run defs (onTc (τ := τ) (main (F := F))) ⟨m, fun _ => 0, ρ⟩ fun r => ∀ c : Dev nD,
      r.2.mem ((c : Thread nD τ).loc main_v19) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.Tail0Ideal.Gen

end
-- ==== Proof.Tail0Tile.lean ====
/- What one tile of 1024 rows of layer 0's last part computes, read at an element: the two mixers' outputs come in as two arrays. -/
module

public import proofs.«01_k».proof.Proof.Gen.Tail0Ideal.Skeleton
public import proofs.«01_k».proof.Proof.TailBlock

@[expose] public section

set_option maxRecDepth 16384

noncomputable section

namespace Cert.Tail0Ideal.Tile

open Idealize.ShloMosaic Idealize.ShloMosaic.TcCoe Idealize.SL.Sem
open Cert.Tail0Ideal Cert.Tail0Ideal.Gen Cert.Rows
open Cert.TailIdeal.Tile (stack inside half mask chunk)

/-- The rows of a tile of one mixer's output, with the sixteen before and the sixteen after it. -/
def strip (P : FVec Ideal S16x512 .bf16) (M : FVec Ideal S1024x512 .bf16) (N : FVec Ideal S16x512 .bf16) (s : Fin 1056) (k : Fin 512) : EReal :=
  if h : s.val < 16 then P (ix2 ⟨s.val, h⟩ k) else if h' : s.val - 16 < 1024 then M (ix2 ⟨s.val - 16, h'⟩ k) else N (ix2 ⟨s.val - 16 - 1024, by omega⟩ k)

/-- One row of the stack before its norm: the row and the two mixers' projections. -/
def pre (a1 : FVec Ideal S16x512 .bf16) (a0 : FVec Ideal S1024x512 .bf16) (a2 : FVec Ideal S16x512 .bf16) (wa : FVec Ideal S512x1024 .bf16)
    (b1 : FVec Ideal S16x512 .bf16) (b0 : FVec Ideal S1024x512 .bf16) (b2 : FVec Ideal S16x512 .bf16) (wb : FVec Ideal S512x1024 .bf16)
    (x1 : FVec Ideal S16x1024 .f32) (x0 : FVec Ideal S1024x1024 .f32) (x2 : FVec Ideal S16x1024 .f32) (s : Fin 1056) (j : Fin 1024) : EReal :=
  Ideal.ofBits .f32 0x3FB504F3#32 * stack x1 x0 x2 s j + (∑ k, strip a1 a0 a2 s k * wa (ix2 k j) + ∑ k, strip b1 b0 b2 s k * wb (ix2 k j))

theorem pay2_apply (a1 a0 a2 wa b1 b0 b2 wb x1 x0 x2) (s : Fin 1056) (j : Fin 1024) :
    k0_pay2 (F := Ideal) a1 a0 a2 wa b1 b0 b2 wb x1 x0 x2 (ix2 s j) = pre a1 a0 a2 wa b1 b0 b2 wb x1 x0 x2 s j := by
  pointwise [k0_pay2]
  simp only [pre, stack, strip]

theorem pay3_apply (v : FVec Ideal S1056x1024 .f32) (g b : FVec Ideal S1x1024 .f32) (s : Fin 1056) (j : Fin 1024) :
    k0_pay3 (F := Ideal) v g b (ix2 s j) = norm (fun k => v (ix2 s k)) (fun k => g (ix2 0 k)) (fun k => b (ix2 0 k)) j := by
  pointwise [k0_pay3]
  simp only [Cert.Rows.norm, mean]

theorem pay4_apply (z : Bool) (v : FVec Ideal S1056x1024 .f32) (g b : FVec Ideal S1x1024 .f32) (s : Fin 1056) (j : Fin 1024) :
    k0_pay4 (F := Ideal) (half z) v g b (ix2 s j) = if inside z s then k0_pay3 (F := Ideal) v g b (ix2 s j) else 0 := by
  pointwise [k0_pay4]
  rw [mask]

theorem pay5_apply (v0 : BitVec 32) (v : FVec Ideal S1056x1024 .f32) (g b : FVec Ideal S1x1024 .f32) (r j : Fin 1024) :
    k0_pay5 (F := Ideal) v0 v g b (ix2 r j) = k0_pay4 (F := Ideal) v0 v g b (ix2 (⟨r.val + 16, by omega⟩ : Fin 1056) j) := by
  pointwise [k0_pay5, k0_pay4]
  simp only [Nat.add_comm 16]

theorem pay6_apply (v : FVec Ideal S1056x1024 .f32) (g b : FVec Ideal S1x1024 .f32) (r j : Fin 1024) :
    k0_pay6 (F := Ideal) v g b (ix2 r j) = k0_pay3 (F := Ideal) v g b (ix2 (⟨r.val + 16, by omega⟩ : Fin 1056) j) := by
  pointwise [k0_pay6, k0_pay3]
  simp only [Nat.add_comm 16]

/-! Every chunk is the one chunk. -/

theorem chunk0 (v72 v73 wg wu cw cb) : k0_pay8 (F := Ideal) v72 v73 (k0_pay7 (F := Ideal) wg) wu cw cb = chunk v72 v73 wg wu cw cb := rfl

theorem chunk1 (v72 v73 wg wu cw cb) : k0_pay10 (F := Ideal) (k0_pay9 (F := Ideal) v72 v73 wg wu cw cb) = chunk v72 v73 wg wu cw cb := rfl

theorem chunk2 (v72 v73 wg wu cw cb) : k0_pay13 (F := Ideal) (k0_pay11 (F := Ideal) v73 wu) (k0_pay12 (F := Ideal) v72 wg cw cb) = chunk v72 v73 wg wu cw cb := rfl

theorem chunk3 (v72 v73 wg wu cw cb) : k0_pay18 (F := Ideal) (k0_pay14 (F := Ideal) v73 wu) (k0_pay16 (F := Ideal) v72 wg cw cb) (k0_pay17 (F := Ideal) v72 wg cw cb) = chunk v72 v73 wg wu cw cb := rfl

theorem chunk4 (v72 v73 wg wu cw cb) : k0_pay23 (F := Ideal) (k0_pay19 (F := Ideal) v73 wu) (k0_pay21 (F := Ideal) v72 wg cw cb) (k0_pay22 (F := Ideal) v72 wg cw cb) = chunk v72 v73 wg wu cw cb := rfl

theorem chunk5 (v72 v73 wg wu cw cb) : k0_pay28 (F := Ideal) (k0_pay24 (F := Ideal) v73 wu) (k0_pay25 (F := Ideal) v72 wg cw cb) (k0_pay26 (F := Ideal) v72 wg cw cb)
    (k0_pay27 (F := Ideal) v72 wg cw cb) = chunk v72 v73 wg wu cw cb := rfl

theorem chunk6 (v72 v73 wg wu cw cb) : k0_pay31 (F := Ideal) (k0_pay29 (F := Ideal) v73 wu) (k0_pay30 (F := Ideal) v72 wg cw cb) (FloatOps.ofBits (F := Ideal) .f32 0x3F000000#32)
    = chunk v72 v73 wg wu cw cb := rfl

theorem chunk7 (v72 v73 wg wu cw cb) : k0_pay37 (F := Ideal) (k0_pay33 (F := Ideal) v73 wu) (k0_pay34 (F := Ideal) v72 wg) (k0_pay35 (F := Ideal) v72 wg cw cb) (k0_pay36 (F := Ideal) cw) = chunk v72 v73 wg wu cw cb := rfl

theorem chunk8 (v72 v73 wg wu cw cb) : k0_pay44 (F := Ideal) (k0_pay39 (F := Ideal) v73 wu) cw (k0_pay40 (F := Ideal) v72 wg) (k0_pay41 (F := Ideal) v72 wg cw cb)
    (k0_pay42 (F := Ideal) cw) (k0_pay43 (F := Ideal) v72 wg) = chunk v72 v73 wg wu cw cb := rfl

theorem chunk9 (v72 v73 wg wu cw cb) : k0_pay50 (F := Ideal) (k0_pay45 (F := Ideal) v72 wg) (k0_pay46 (F := Ideal) v73 wu) cw (k0_pay47 (F := Ideal) v72 wg)
    (k0_pay48 (F := Ideal) cb) (k0_pay49 (F := Ideal) v72 wg cw) = chunk v72 v73 wg wu cw cb := rfl

theorem chunk10 (v72 v73 wg wu cw cb) : k0_pay55 (F := Ideal) (k0_pay51 (F := Ideal) v72 wg) (k0_pay52 (F := Ideal) v73 wu) cw (k0_pay53 (F := Ideal) v72 wg)
    (k0_pay54 (F := Ideal) v72 wg) cb = chunk v72 v73 wg wu cw cb := rfl

/-! The result. -/

theorem pay56_apply (x : FVec Ideal S1024x1024 .f32) (h : FVec Ideal S1024x2816 .bf16) (wd : FVec Ideal S2816x1024 .bf16) (r j : Fin 1024) :
    k0_pay56 (F := Ideal) x h wd (ix2 r j) = Ideal.ofBits .f32 0x3FB504F3#32 * x (ix2 r j) + ∑ f, h (ix2 r f) * wd (ix2 f j) := by
  pointwise [k0_pay56]

theorem pay58_apply (v : FVec Ideal S1024x1024 .f32) (g b : FVec Ideal S1x1024 .f32) (r j : Fin 1024) :
    k0_pay58 (F := Ideal) v (k0_pay57 (F := Ideal) g) b (ix2 r j) = norm (fun k => v (ix2 r k)) (fun k => g (ix2 0 k)) (fun k => b (ix2 0 k)) j := by
  pointwise [k0_pay58, k0_pay57]
  simp only [Cert.Rows.norm, mean]

theorem pay59_apply (v : FVec Ideal S1024x1024 .f32) (g b : FVec Ideal S1x1024 .f32) (wg : FVec Ideal S1024x1024 .bf16)
    (p : FVec Ideal S1024x256 .f32) (wp : FVec Ideal S256x1024 .bf16) (r j : Fin 1024) :
    k0_pay59 (F := Ideal) v g b wg p wp (ix2 r j)
    = Ideal.logistic (∑ k, k0_pay58 (F := Ideal) v g b (ix2 r k) * wg (ix2 k j)) * ∑ k, p (ix2 r k) * wp (ix2 k j) := by
  pointwise [k0_pay59]

theorem pay1_apply (u v : FVec Ideal S1024x1024 .f32) (r j : Fin 1024) : k0_pay1 (F := Ideal) u v (ix2 r j) = u (ix2 r j) + v (ix2 r j) := by
  pointwise [k0_pay1]

theorem result_apply (x : FVec Ideal S1024x1024 .f32) (h : FVec Ideal S1024x2816 .bf16) (wd : FVec Ideal S2816x1024 .bf16) (g b : FVec Ideal S1x1024 .f32)
    (wg : FVec Ideal S1024x1024 .bf16) (p : FVec Ideal S1024x256 .f32) (wp : FVec Ideal S256x1024 .bf16) (r j : Fin 1024) :
    k0_pay1 (F := Ideal) (k0_pay58 (F := Ideal) (k0_pay56 (F := Ideal) x h wd) (k0_pay57 (F := Ideal) g) b)
      (k0_pay59 (F := Ideal) (k0_pay56 (F := Ideal) x h wd) (k0_pay57 (F := Ideal) g) b wg p wp) (ix2 r j)
    = last (fun j => x (ix2 r j)) (fun f => h (ix2 r f)) (fun f j => wd (ix2 f j)) (fun j => g (ix2 0 j)) (fun j => b (ix2 0 j)) (fun k => p (ix2 r k))
        (fun k j => wg (ix2 k j)) (fun k j => wp (ix2 k j)) j := by
  rw [pay1_apply, pay59_apply]
  simp only [pay58_apply, pay56_apply]
  rfl

end Cert.Tail0Ideal.Tile

end
-- ==== Proof.Tail0Rows.lean ====
/- The blocks that the kernel of layer 0's last part is given, as parts of the launched arrays. -/
module

public import proofs.«01_k».proof.Proof.Gen.Tail0Ideal.Frame.Runs
public import proofs.«01_k».proof.Proof.Tail0Tile
public import Idealize.ShloMosaic.Lib.Pipeline.ValueKit
public import Idealize.ShloMosaic.Lib.Claim

@[expose] public section

set_option maxRecDepth 16384

noncomputable section

namespace Cert.Tail0Ideal.Tile

open Idealize.ShloMosaic Idealize.ShloMosaic.TcCoe Idealize.SL.Sem
open Cert.Tail0Ideal Cert.Tail0Ideal.Gen Cert.Rows
open Cert.TailIdeal.Tile (stack inside)

variable (m : (ℓ : Loc nD τ sig) → Buf (Elt Ideal) ℓ)

theorem idx : ∀ t : Fin cfg0.N, win0_0.index t = ![t.val, 0]
    ∧ win0_1.index t = ![64 * t.val - 1, 0]
    ∧ win0_2.index t = ![min (64 * (t.val + 1)) 2047, 0]
    ∧ win0_3.index t = ![t.val, 0]
    ∧ win0_4.index t = ![64 * t.val - 1, 0]
    ∧ win0_5.index t = ![min (64 * (t.val + 1)) 2047, 0]
    ∧ win0_6.index t = ![t.val, 0]
    ∧ win0_7.index t = ![64 * t.val - 1, 0]
    ∧ win0_8.index t = ![min (64 * (t.val + 1)) 2047, 0]
    ∧ win0_9.index t = ![0, 0]
    ∧ win0_10.index t = ![0, 0]
    ∧ win0_11.index t = ![0, 0]
    ∧ win0_12.index t = ![0, 0]
    ∧ win0_13.index t = ![t.val, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![t.val, 0] :=
  (by decide +kernel : ∀ t : Fin grid0.N, _)

theorem t_lt (t : Fin cfg0.N) : t.val < 32 := lt_of_lt_of_eq t.isLt N_0

/-! The blocks, as parts of their arrays. -/

theorem rd0 (X : FVec Ideal S32768x1024 .f32) (t : Fin cfg0.N) (r : Fin 1024) (k : Fin 1024) :
    ((cfg0.win 0).blk t).view.read (Elt Ideal) X (ix2 r k) = X (ix2 ⟨t.val * 1024 + r.val, by have := t_lt t; omega⟩ k) := by
  blk_ext [idx t]

theorem iblk0 (c : Dev nD) (t : Fin cfg0.N) (r : Fin 1024) (k : Fin 1024) : iblk m c 0 t (ix2 r k) = V m c main_v1 (ix2 ⟨t.val * 1024 + r.val, by have := t_lt t; omega⟩ k) := by
  exact rd0 (V m c main_v1) t r k

theorem rd1 (X : FVec Ideal S32768x1024 .f32) (t : Fin cfg0.N) (r : Fin 16) (k : Fin 1024) :
    ((cfg0.win 1).blk t).view.read (Elt Ideal) X (ix2 r k) = X (ix2 ⟨(64 * t.val - 1) * 16 + r.val, by have := t_lt t; omega⟩ k) := by
  blk_ext [idx t]

theorem iblk1 (c : Dev nD) (t : Fin cfg0.N) (r : Fin 16) (k : Fin 1024) : iblk m c 1 t (ix2 r k) = V m c main_v1 (ix2 ⟨(64 * t.val - 1) * 16 + r.val, by have := t_lt t; omega⟩ k) := by
  exact rd1 (V m c main_v1) t r k

theorem rd2 (X : FVec Ideal S32768x1024 .f32) (t : Fin cfg0.N) (r : Fin 16) (k : Fin 1024) :
    ((cfg0.win 2).blk t).view.read (Elt Ideal) X (ix2 r k) = X (ix2 ⟨min (64 * (t.val + 1)) 2047 * 16 + r.val, by have := t_lt t; omega⟩ k) := by
  blk_ext [idx t]

theorem iblk2 (c : Dev nD) (t : Fin cfg0.N) (r : Fin 16) (k : Fin 1024) : iblk m c 2 t (ix2 r k) = V m c main_v1 (ix2 ⟨min (64 * (t.val + 1)) 2047 * 16 + r.val, by have := t_lt t; omega⟩ k) := by
  exact rd2 (V m c main_v1) t r k

theorem rd3 (X : FVec Ideal S32768x512 .bf16) (t : Fin cfg0.N) (r : Fin 1024) (k : Fin 512) :
    ((cfg0.win 3).blk t).view.read (Elt Ideal) X (ix2 r k) = X (ix2 ⟨t.val * 1024 + r.val, by have := t_lt t; omega⟩ k) := by
  blk_ext [idx t]

theorem iblk3 (c : Dev nD) (t : Fin cfg0.N) (r : Fin 1024) (k : Fin 512) : iblk m c 3 t (ix2 r k) = V m c main_v3 (ix2 ⟨t.val * 1024 + r.val, by have := t_lt t; omega⟩ k) := by
  exact rd3 (V m c main_v3) t r k

theorem rd4 (X : FVec Ideal S32768x512 .bf16) (t : Fin cfg0.N) (r : Fin 16) (k : Fin 512) :
    ((cfg0.win 4).blk t).view.read (Elt Ideal) X (ix2 r k) = X (ix2 ⟨(64 * t.val - 1) * 16 + r.val, by have := t_lt t; omega⟩ k) := by
  blk_ext [idx t]

theorem iblk4 (c : Dev nD) (t : Fin cfg0.N) (r : Fin 16) (k : Fin 512) : iblk m c 4 t (ix2 r k) = V m c main_v3 (ix2 ⟨(64 * t.val - 1) * 16 + r.val, by have := t_lt t; omega⟩ k) := by
  exact rd4 (V m c main_v3) t r k

theorem rd5 (X : FVec Ideal S32768x512 .bf16) (t : Fin cfg0.N) (r : Fin 16) (k : Fin 512) :
    ((cfg0.win 5).blk t).view.read (Elt Ideal) X (ix2 r k) = X (ix2 ⟨min (64 * (t.val + 1)) 2047 * 16 + r.val, by have := t_lt t; omega⟩ k) := by
  blk_ext [idx t]

theorem iblk5 (c : Dev nD) (t : Fin cfg0.N) (r : Fin 16) (k : Fin 512) : iblk m c 5 t (ix2 r k) = V m c main_v3 (ix2 ⟨min (64 * (t.val + 1)) 2047 * 16 + r.val, by have := t_lt t; omega⟩ k) := by
  exact rd5 (V m c main_v3) t r k

theorem rd6 (X : FVec Ideal S32768x512 .bf16) (t : Fin cfg0.N) (r : Fin 1024) (k : Fin 512) :
    ((cfg0.win 6).blk t).view.read (Elt Ideal) X (ix2 r k) = X (ix2 ⟨t.val * 1024 + r.val, by have := t_lt t; omega⟩ k) := by
  blk_ext [idx t]

theorem iblk6 (c : Dev nD) (t : Fin cfg0.N) (r : Fin 1024) (k : Fin 512) : iblk m c 6 t (ix2 r k) = V m c main_v5 (ix2 ⟨t.val * 1024 + r.val, by have := t_lt t; omega⟩ k) := by
  exact rd6 (V m c main_v5) t r k

theorem rd7 (X : FVec Ideal S32768x512 .bf16) (t : Fin cfg0.N) (r : Fin 16) (k : Fin 512) :
    ((cfg0.win 7).blk t).view.read (Elt Ideal) X (ix2 r k) = X (ix2 ⟨(64 * t.val - 1) * 16 + r.val, by have := t_lt t; omega⟩ k) := by
  blk_ext [idx t]

theorem iblk7 (c : Dev nD) (t : Fin cfg0.N) (r : Fin 16) (k : Fin 512) : iblk m c 7 t (ix2 r k) = V m c main_v5 (ix2 ⟨(64 * t.val - 1) * 16 + r.val, by have := t_lt t; omega⟩ k) := by
  exact rd7 (V m c main_v5) t r k

theorem rd8 (X : FVec Ideal S32768x512 .bf16) (t : Fin cfg0.N) (r : Fin 16) (k : Fin 512) :
    ((cfg0.win 8).blk t).view.read (Elt Ideal) X (ix2 r k) = X (ix2 ⟨min (64 * (t.val + 1)) 2047 * 16 + r.val, by have := t_lt t; omega⟩ k) := by
  blk_ext [idx t]

theorem iblk8 (c : Dev nD) (t : Fin cfg0.N) (r : Fin 16) (k : Fin 512) : iblk m c 8 t (ix2 r k) = V m c main_v5 (ix2 ⟨min (64 * (t.val + 1)) 2047 * 16 + r.val, by have := t_lt t; omega⟩ k) := by
  exact rd8 (V m c main_v5) t r k

theorem rd9 (X : FVec Ideal S512x1024 .bf16) (t : Fin cfg0.N) (r : Fin 512) (k : Fin 1024) :
    ((cfg0.win 9).blk t).view.read (Elt Ideal) X (ix2 r k) = X (ix2 r k) := by
  blk_ext [idx t]

theorem iblk9 (c : Dev nD) (t : Fin cfg0.N) (r : Fin 512) (k : Fin 1024) : iblk m c 9 t (ix2 r k) = V m c main_v6 (ix2 r k) := by
  exact rd9 (V m c main_v6) t r k

theorem rd10 (X : FVec Ideal S512x1024 .bf16) (t : Fin cfg0.N) (r : Fin 512) (k : Fin 1024) :
    ((cfg0.win 10).blk t).view.read (Elt Ideal) X (ix2 r k) = X (ix2 r k) := by
  blk_ext [idx t]

theorem iblk10 (c : Dev nD) (t : Fin cfg0.N) (r : Fin 512) (k : Fin 1024) : iblk m c 10 t (ix2 r k) = V m c main_v7 (ix2 r k) := by
  exact rd10 (V m c main_v7) t r k

theorem rd11 (X : FVec Ideal S1x1024 .f32) (t : Fin cfg0.N) (r : Fin 1) (k : Fin 1024) :
    ((cfg0.win 11).blk t).view.read (Elt Ideal) X (ix2 r k) = X (ix2 r k) := by
  blk_ext [idx t]

theorem iblk11 (c : Dev nD) (t : Fin cfg0.N) (r : Fin 1) (k : Fin 1024) : iblk m c 11 t (ix2 r k) = V m c main_v8 (ix2 r k) := by
  exact rd11 (V m c main_v8) t r k

theorem rd12 (X : FVec Ideal S1x1024 .f32) (t : Fin cfg0.N) (r : Fin 1) (k : Fin 1024) :
    ((cfg0.win 12).blk t).view.read (Elt Ideal) X (ix2 r k) = X (ix2 r k) := by
  blk_ext [idx t]

theorem iblk12 (c : Dev nD) (t : Fin cfg0.N) (r : Fin 1) (k : Fin 1024) : iblk m c 12 t (ix2 r k) = V m c main_v9 (ix2 r k) := by
  exact rd12 (V m c main_v9) t r k

theorem rd13 (X : FVec Ideal S32768x256 .f32) (t : Fin cfg0.N) (r : Fin 1024) (k : Fin 256) :
    ((cfg0.win 13).blk t).view.read (Elt Ideal) X (ix2 r k) = X (ix2 ⟨t.val * 1024 + r.val, by have := t_lt t; omega⟩ k) := by
  blk_ext [idx t]

theorem iblk13 (c : Dev nD) (t : Fin cfg0.N) (r : Fin 1024) (k : Fin 256) : iblk m c 13 t (ix2 r k) = V m c main_v10 (ix2 ⟨t.val * 1024 + r.val, by have := t_lt t; omega⟩ k) := by
  exact rd13 (V m c main_v10) t r k

theorem rd14 (X : FVec Ideal S1024x2816 .bf16) (t : Fin cfg0.N) (r : Fin 1024) (k : Fin 2816) :
    ((cfg0.win 14).blk t).view.read (Elt Ideal) X (ix2 r k) = X (ix2 r k) := by
  blk_ext [idx t]

theorem iblk14 (c : Dev nD) (t : Fin cfg0.N) (r : Fin 1024) (k : Fin 2816) : iblk m c 14 t (ix2 r k) = V m c main_v11 (ix2 r k) := by
  exact rd14 (V m c main_v11) t r k

theorem rd15 (X : FVec Ideal S1024x2816 .bf16) (t : Fin cfg0.N) (r : Fin 1024) (k : Fin 2816) :
    ((cfg0.win 15).blk t).view.read (Elt Ideal) X (ix2 r k) = X (ix2 r k) := by
  blk_ext [idx t]

theorem iblk15 (c : Dev nD) (t : Fin cfg0.N) (r : Fin 1024) (k : Fin 2816) : iblk m c 15 t (ix2 r k) = V m c main_v12 (ix2 r k) := by
  exact rd15 (V m c main_v12) t r k

theorem rd16 (X : FVec Ideal S3x2816 .f32) (t : Fin cfg0.N) (r : Fin 3) (k : Fin 2816) :
    ((cfg0.win 16).blk t).view.read (Elt Ideal) X (ix2 r k) = X (ix2 r k) := by
  blk_ext [idx t]

theorem iblk16 (c : Dev nD) (t : Fin cfg0.N) (r : Fin 3) (k : Fin 2816) : iblk m c 16 t (ix2 r k) = V m c main_arg9 (ix2 r k) := by
  exact rd16 (V m c main_arg9) t r k

theorem rd17 (X : FVec Ideal S1x2816 .f32) (t : Fin cfg0.N) (r : Fin 1) (k : Fin 2816) :
    ((cfg0.win 17).blk t).view.read (Elt Ideal) X (ix2 r k) = X (ix2 r k) := by
  blk_ext [idx t]

theorem iblk17 (c : Dev nD) (t : Fin cfg0.N) (r : Fin 1) (k : Fin 2816) : iblk m c 17 t (ix2 r k) = V m c main_v13 (ix2 r k) := by
  exact rd17 (V m c main_v13) t r k

theorem rd18 (X : FVec Ideal S2816x1024 .bf16) (t : Fin cfg0.N) (r : Fin 2816) (k : Fin 1024) :
    ((cfg0.win 18).blk t).view.read (Elt Ideal) X (ix2 r k) = X (ix2 r k) := by
  blk_ext [idx t]

theorem iblk18 (c : Dev nD) (t : Fin cfg0.N) (r : Fin 2816) (k : Fin 1024) : iblk m c 18 t (ix2 r k) = V m c main_v14 (ix2 r k) := by
  exact rd18 (V m c main_v14) t r k

theorem rd19 (X : FVec Ideal S1x1024 .f32) (t : Fin cfg0.N) (r : Fin 1) (k : Fin 1024) :
    ((cfg0.win 19).blk t).view.read (Elt Ideal) X (ix2 r k) = X (ix2 r k) := by
  blk_ext [idx t]

theorem iblk19 (c : Dev nD) (t : Fin cfg0.N) (r : Fin 1) (k : Fin 1024) : iblk m c 19 t (ix2 r k) = V m c main_v15 (ix2 r k) := by
  exact rd19 (V m c main_v15) t r k

theorem rd20 (X : FVec Ideal S1x1024 .f32) (t : Fin cfg0.N) (r : Fin 1) (k : Fin 1024) :
    ((cfg0.win 20).blk t).view.read (Elt Ideal) X (ix2 r k) = X (ix2 r k) := by
  blk_ext [idx t]

theorem iblk20 (c : Dev nD) (t : Fin cfg0.N) (r : Fin 1) (k : Fin 1024) : iblk m c 20 t (ix2 r k) = V m c main_v16 (ix2 r k) := by
  exact rd20 (V m c main_v16) t r k

theorem rd21 (X : FVec Ideal S1024x1024 .bf16) (t : Fin cfg0.N) (r : Fin 1024) (k : Fin 1024) :
    ((cfg0.win 21).blk t).view.read (Elt Ideal) X (ix2 r k) = X (ix2 r k) := by
  blk_ext [idx t]

theorem iblk21 (c : Dev nD) (t : Fin cfg0.N) (r : Fin 1024) (k : Fin 1024) : iblk m c 21 t (ix2 r k) = V m c main_v17 (ix2 r k) := by
  exact rd21 (V m c main_v17) t r k

theorem rd22 (X : FVec Ideal S256x1024 .bf16) (t : Fin cfg0.N) (r : Fin 256) (k : Fin 1024) :
    ((cfg0.win 22).blk t).view.read (Elt Ideal) X (ix2 r k) = X (ix2 r k) := by
  blk_ext [idx t]

theorem iblk22 (c : Dev nD) (t : Fin cfg0.N) (r : Fin 256) (k : Fin 1024) : iblk m c 22 t (ix2 r k) = V m c main_v18 (ix2 r k) := by
  exact rd22 (V m c main_v18) t r k

/-! The launched arrays, by what they hold, and what the launch makes of them. -/

abbrev xOf (c : Dev nD) : Fin 16 → Fin 2048 → Fin 1024 → EReal := fun b s k => (m ((c : Thread nD τ).loc main_arg0) : FVec Ideal S16x2048x1024 .f32) (ix3 b s k)
abbrev aOf (c : Dev nD) : Fin 16 → Fin 2048 → Fin 512 → EReal := fun b s k => (m ((c : Thread nD τ).loc main_arg1) : FVec Ideal S16x2048x512 .f32) (ix3 b s k)
abbrev bOf (c : Dev nD) : Fin 16 → Fin 2048 → Fin 512 → EReal := fun b s k => (m ((c : Thread nD τ).loc main_arg2) : FVec Ideal S16x2048x512 .f32) (ix3 b s k)
abbrev wOf (c : Dev nD) : Fin 1024 → Fin 1024 → EReal := fun k j => (m ((c : Thread nD τ).loc main_arg3) : FVec Ideal S1024x1024 .f32) (ix2 k j)
abbrev mgOf (c : Dev nD) : Fin 1024 → EReal := fun j => (m ((c : Thread nD τ).loc main_arg4) : FVec Ideal S1024 .f32) (ix1 j)
abbrev mbOf (c : Dev nD) : Fin 1024 → EReal := fun j => (m ((c : Thread nD τ).loc main_arg5) : FVec Ideal S1024 .f32) (ix1 j)
abbrev pOf (c : Dev nD) : Fin 16 → Fin 2048 → Fin 256 → EReal := fun b s k => (m ((c : Thread nD τ).loc main_arg6) : FVec Ideal S16x2048x256 .f32) (ix3 b s k)
abbrev wgOf (c : Dev nD) : Fin 1024 → Fin 2816 → EReal := fun k j => (m ((c : Thread nD τ).loc main_arg7) : FVec Ideal S1024x2816 .f32) (ix2 k j)
abbrev wuOf (c : Dev nD) : Fin 1024 → Fin 2816 → EReal := fun k j => (m ((c : Thread nD τ).loc main_arg8) : FVec Ideal S1024x2816 .f32) (ix2 k j)
abbrev cwOf (c : Dev nD) : Fin 3 → Fin 2816 → EReal := fun k j => (m ((c : Thread nD τ).loc main_arg9) : FVec Ideal S3x2816 .f32) (ix2 k j)
abbrev cbOf (c : Dev nD) : Fin 2816 → EReal := fun j => (m ((c : Thread nD τ).loc main_arg10) : FVec Ideal S2816 .f32) (ix1 j)
abbrev wdOf (c : Dev nD) : Fin 2816 → Fin 1024 → EReal := fun k j => (m ((c : Thread nD τ).loc main_arg11) : FVec Ideal S2816x1024 .f32) (ix2 k j)
abbrev fgOf (c : Dev nD) : Fin 1024 → EReal := fun j => (m ((c : Thread nD τ).loc main_arg12) : FVec Ideal S1024 .f32) (ix1 j)
abbrev fbOf (c : Dev nD) : Fin 1024 → EReal := fun j => (m ((c : Thread nD τ).loc main_arg13) : FVec Ideal S1024 .f32) (ix1 j)
abbrev pgOf (c : Dev nD) : Fin 1024 → Fin 1024 → EReal := fun k j => (m ((c : Thread nD τ).loc main_arg14) : FVec Ideal S1024x1024 .f32) (ix2 k j)
abbrev ppOf (c : Dev nD) : Fin 256 → Fin 1024 → EReal := fun k j => (m ((c : Thread nD τ).loc main_arg15) : FVec Ideal S256x1024 .f32) (ix2 k j)

/-- The two mixers' outputs side by side. -/
abbrev oOf (c : Dev nD) : Fin 16 → Fin 2048 → Fin 1024 → EReal :=
  fun b s k => if h : k.val < 512 then aOf m c b s ⟨k.val, h⟩ else bOf m c b s ⟨k.val - 512, by omega⟩

theorem V_x (c : Dev nD) (R : Fin 32768) (k : Fin 1024) : V m c main_v1 (ix2 R k) = xOf m c ⟨R.val / 2048, by omega⟩ ⟨R.val % 2048, by omega⟩ k := by
  entry_read
  pointwise

theorem V_a (c : Dev nD) (R : Fin 32768) (k : Fin 512) : V m c main_v3 (ix2 R k) = aOf m c ⟨R.val / 2048, by omega⟩ ⟨R.val % 2048, by omega⟩ k := by
  entry_read
  pointwise

theorem V_b (c : Dev nD) (R : Fin 32768) (k : Fin 512) : V m c main_v5 (ix2 R k) = bOf m c ⟨R.val / 2048, by omega⟩ ⟨R.val % 2048, by omega⟩ k := by
  entry_read
  pointwise

theorem V_p (c : Dev nD) (R : Fin 32768) (k : Fin 256) : V m c main_v10 (ix2 R k) = pOf m c ⟨R.val / 2048, by omega⟩ ⟨R.val % 2048, by omega⟩ k := by
  entry_read
  pointwise

theorem V_wa (c : Dev nD) (k : Fin 512) (j : Fin 1024) : V m c main_v6 (ix2 k j) = wOf m c ⟨k.val, by omega⟩ j := by
  entry_read
  pointwise

theorem V_wb (c : Dev nD) (k : Fin 512) (j : Fin 1024) : V m c main_v7 (ix2 k j) = wOf m c ⟨512 + k.val, by omega⟩ j := by
  entry_read
  pointwise

theorem V_mg (c : Dev nD) (j : Fin 1024) : V m c main_v8 (ix2 0 j) = mgOf m c j := by
  entry_read
  pointwise

theorem V_mb (c : Dev nD) (j : Fin 1024) : V m c main_v9 (ix2 0 j) = mbOf m c j := by
  entry_read
  pointwise

theorem V_wg (c : Dev nD) (k : Fin 1024) (j : Fin 2816) : V m c main_v11 (ix2 k j) = wgOf m c k j := by
  entry_read
  pointwise

theorem V_wu (c : Dev nD) (k : Fin 1024) (j : Fin 2816) : V m c main_v12 (ix2 k j) = wuOf m c k j := by
  entry_read
  pointwise

theorem V_cw (c : Dev nD) (k : Fin 3) (j : Fin 2816) : V m c main_arg9 (ix2 k j) = cwOf m c k j := by
  entry_read
  rfl

theorem V_cb (c : Dev nD) (j : Fin 2816) : V m c main_v13 (ix2 0 j) = cbOf m c j := by
  entry_read
  pointwise

theorem V_wd (c : Dev nD) (k : Fin 2816) (j : Fin 1024) : V m c main_v14 (ix2 k j) = wdOf m c k j := by
  entry_read
  pointwise

theorem V_fg (c : Dev nD) (j : Fin 1024) : V m c main_v15 (ix2 0 j) = fgOf m c j := by
  entry_read
  pointwise

theorem V_fb (c : Dev nD) (j : Fin 1024) : V m c main_v16 (ix2 0 j) = fbOf m c j := by
  entry_read
  pointwise

theorem V_pg (c : Dev nD) (k : Fin 1024) (j : Fin 1024) : V m c main_v17 (ix2 k j) = pgOf m c k j := by
  entry_read
  pointwise

theorem V_pp (c : Dev nD) (k : Fin 256) (j : Fin 1024) : V m c main_v18 (ix2 k j) = ppOf m c k j := by
  entry_read
  pointwise

/-! The rows. -/

theorem inside_at (t : Fin cfg0.N) (s : Fin 1056) (h : inside (decide (t.val % 2 = 0)) s) :
    (t.val % 2 = 0 → 16 ≤ s.val) ∧ (¬ t.val % 2 = 0 → s.val < 1040) := by
  unfold inside at h
  by_cases e : t.val % 2 = 0 <;> simp [e] at h ⊢ <;> omega

theorem stack_x (c : Dev nD) (t : Fin cfg0.N) (s : Fin 1056) (k : Fin 1024) (h : inside (decide (t.val % 2 = 0)) s) (R : Fin 32768) (hR : R.val + 16 = t.val * 1024 + s.val) :
    stack (φ := .f32) (iblk m c 1 t) (iblk m c 0 t) (iblk m c 2 t) s k = V m c main_v1 (ix2 R k) := by
  have ht := t_lt t
  have h' := inside_at t s h
  unfold stack
  split
  · refine (iblk1 m c t _ k).trans (congrArg (fun R : Fin 32768 => V m c main_v1 (ix2 R k)) (Fin.ext ?_))
    show (64 * t.val - 1) * 16 + s.val = R.val
    omega
  · split
    · refine (iblk0 m c t _ k).trans (congrArg (fun R : Fin 32768 => V m c main_v1 (ix2 R k)) (Fin.ext ?_))
      show t.val * 1024 + (s.val - 16) = R.val
      omega
    · refine (iblk2 m c t _ k).trans (congrArg (fun R : Fin 32768 => V m c main_v1 (ix2 R k)) (Fin.ext ?_))
      show min (64 * (t.val + 1)) 2047 * 16 + (s.val - 16 - 1024) = R.val
      omega

theorem stack_a (c : Dev nD) (t : Fin cfg0.N) (s : Fin 1056) (k : Fin 512) (h : inside (decide (t.val % 2 = 0)) s) (R : Fin 32768) (hR : R.val + 16 = t.val * 1024 + s.val) :
    strip (iblk m c 4 t) (iblk m c 3 t) (iblk m c 5 t) s k = V m c main_v3 (ix2 R k) := by
  have ht := t_lt t
  have h' := inside_at t s h
  unfold strip
  split
  · refine (iblk4 m c t _ k).trans (congrArg (fun R : Fin 32768 => V m c main_v3 (ix2 R k)) (Fin.ext ?_))
    show (64 * t.val - 1) * 16 + s.val = R.val
    omega
  · split
    · refine (iblk3 m c t _ k).trans (congrArg (fun R : Fin 32768 => V m c main_v3 (ix2 R k)) (Fin.ext ?_))
      show t.val * 1024 + (s.val - 16) = R.val
      omega
    · refine (iblk5 m c t _ k).trans (congrArg (fun R : Fin 32768 => V m c main_v3 (ix2 R k)) (Fin.ext ?_))
      show min (64 * (t.val + 1)) 2047 * 16 + (s.val - 16 - 1024) = R.val
      omega

theorem stack_b (c : Dev nD) (t : Fin cfg0.N) (s : Fin 1056) (k : Fin 512) (h : inside (decide (t.val % 2 = 0)) s) (R : Fin 32768) (hR : R.val + 16 = t.val * 1024 + s.val) :
    strip (iblk m c 7 t) (iblk m c 6 t) (iblk m c 8 t) s k = V m c main_v5 (ix2 R k) := by
  have ht := t_lt t
  have h' := inside_at t s h
  unfold strip
  split
  · refine (iblk7 m c t _ k).trans (congrArg (fun R : Fin 32768 => V m c main_v5 (ix2 R k)) (Fin.ext ?_))
    show (64 * t.val - 1) * 16 + s.val = R.val
    omega
  · split
    · refine (iblk6 m c t _ k).trans (congrArg (fun R : Fin 32768 => V m c main_v5 (ix2 R k)) (Fin.ext ?_))
      show t.val * 1024 + (s.val - 16) = R.val
      omega
    · refine (iblk8 m c t _ k).trans (congrArg (fun R : Fin 32768 => V m c main_v5 (ix2 R k)) (Fin.ext ?_))
      show min (64 * (t.val + 1)) 2047 * 16 + (s.val - 16 - 1024) = R.val
      omega

/-- The normed rows of the whole sequence. -/
abbrev XOf (c : Dev nD) : Fin 16 → Fin 2048 → Fin 1024 → EReal := rowX (xOf m c) (oOf m c) (wOf m c) (mgOf m c) (mbOf m c)

/-- The normed row `s` of a tile's stack. -/
abbrev xr (c : Dev nD) (t : Fin cfg0.N) : Fin 1056 → Fin 1024 → EReal := fun s =>
  Cert.Rows.norm (pre (iblk m c 4 t) (iblk m c 3 t) (iblk m c 5 t) (iblk m c 9 t) (iblk m c 7 t) (iblk m c 6 t) (iblk m c 8 t) (iblk m c 10 t) (iblk m c 1 t) (iblk m c 0 t)
    (iblk m c 2 t) s) (fun j => iblk m c 11 t (ix2 0 j)) (fun j => iblk m c 12 t (ix2 0 j))

/-- A product with the two outputs side by side is the two products' sum. -/
theorem sum_halves (a b : Fin 512 → EReal) (w : Fin 1024 → EReal) :
    ∑ k : Fin 1024, (if h : k.val < 512 then a ⟨k.val, h⟩ else b ⟨k.val - 512, by omega⟩) * w k
    = ∑ k : Fin 512, a k * w ⟨k.val, by omega⟩ + ∑ k : Fin 512, b k * w ⟨512 + k.val, by omega⟩ := by
  refine (Fin.sum_univ_add (a := 512) (b := 512) (fun k : Fin 1024 => (if h : k.val < 512 then a ⟨k.val, h⟩ else b ⟨k.val - 512, by omega⟩) * w k)).trans ?_
  refine congr (congrArg HAdd.hAdd (Finset.sum_congr rfl fun k _ => ?_)) (Finset.sum_congr rfl fun k _ => ?_)
  · exact congrArg (· * _) (dif_pos k.isLt)
  · refine congrArg (· * _) ((dif_neg (by show ¬ 512 + k.val < 512; omega)).trans (congrArg b (Fin.ext ?_)))
    show 512 + k.val - 512 = k.val
    omega

theorem xrow_eq (c : Dev nD) (t : Fin cfg0.N) (s : Fin 1056) (h : inside (decide (t.val % 2 = 0)) s) (b : Fin 16) (q : Fin 2048)
    (hR : b.val * 2048 + q.val + 16 = t.val * 1024 + s.val) : xr m c t s = XOf m c b q := by
  have hb : (⟨(b.val * 2048 + q.val) / 2048, by omega⟩ : Fin 16) = b := Fin.ext (by show (b.val * 2048 + q.val) / 2048 = b.val; omega)
  have hq : (⟨(b.val * 2048 + q.val) % 2048, by omega⟩ : Fin 2048) = q := Fin.ext (by show (b.val * 2048 + q.val) % 2048 = q.val; omega)
  have ex (k) := (stack_x m c t s k h ⟨b.val * 2048 + q.val, by omega⟩ hR).trans (V_x m c _ k)
  have ea (k) := (stack_a m c t s k h ⟨b.val * 2048 + q.val, by omega⟩ hR).trans (V_a m c _ k)
  have eb (k) := (stack_b m c t s k h ⟨b.val * 2048 + q.val, by omega⟩ hR).trans (V_b m c _ k)
  simp only [hb, hq] at ex ea eb
  show Cert.Rows.norm _ _ _ = Cert.Rows.norm _ _ _
  refine congr (congr (congrArg Cert.Rows.norm ?_) ?_) ?_
  · funext j
    refine congr (congrArg HAdd.hAdd (congrArg (_ * ·) (ex j))) (Eq.trans ?_ (sum_halves (aOf m c b q) (bOf m c b q) (fun k => wOf m c k j)).symm)
    refine congr (congrArg HAdd.hAdd (Finset.sum_congr rfl fun k _ => ?_)) (Finset.sum_congr rfl fun k _ => ?_)
    · exact congr (congrArg HMul.hMul (ea k)) ((iblk9 m c t k j).trans (V_wa m c k j))
    · exact congr (congrArg HMul.hMul (eb k)) ((iblk10 m c t k j).trans (V_wb m c k j))
  · funext j; exact (iblk11 m c t 0 j).trans (V_mg m c j)
  · funext j; exact (iblk12 m c t 0 j).trans (V_mb m c j)

end Cert.Tail0Ideal.Tile

end
-- ==== Proof.Tail0Value.lean ====
/- One tile of layer 0's last part, as rows: what the body leaves in its output block. -/
module

public import proofs.«01_k».proof.Proof.Tail0Frame
public import proofs.«01_k».proof.Proof.Tail0Rows
public import Idealize.ShloMosaic.Lib.Pipeline.ValueKit
public import Idealize.ShloMosaic.Lib.Claim

@[expose] public section

set_option maxRecDepth 16384

noncomputable section

namespace Cert.Tail0Ideal.Tile

open Idealize.ShloMosaic Idealize.ShloMosaic.TcCoe Idealize.SL.Sem
open Cert.Tail0Ideal Cert.Tail0Ideal.Gen Cert.Rows
open Cert.TailIdeal.Tile (stack inside half mask chunk gate gates gates_of scratch_eq chunk_fits gate_row inside_mid)

variable (m : (ℓ : Loc nD τ sig) → Buf (Elt Ideal) ℓ)

/-- The tile's place in its sequence, of which it is one half. -/
theorem half_eq : ∀ t : Fin cfg0.N, Scalar.remsi (BitVec.ofNat 32 ((grid0.coords t) 0).val) 2#32 = half (decide (t.val % 2 = 0)) :=
  (by decide +kernel : ∀ t : Fin grid0.N, _)

/-- The normed row `s` of the stack. -/
theorem normed (c : Dev nD) (t : Fin cfg0.N) (s : Fin 1056) (j : Fin 1024) :
    k0_pay3 (F := Ideal) (k0_pay2 (F := Ideal) (iblk m c 4 t) (iblk m c 3 t) (iblk m c 5 t) (iblk m c 9 t) (iblk m c 7 t) (iblk m c 6 t) (iblk m c 8 t) (iblk m c 10 t) (iblk m c 1 t) (iblk m c 0 t) (iblk m c 2 t)) (iblk m c 11 t) (iblk m c 12 t) (ix2 s j) = xr m c t s j := by
  rw [pay3_apply]
  simp only [pay2_apply]

theorem block (c : Dev nD) (t : Fin cfg0.N) (y : S1024x1024.Idx) :
    outsAt0 (F := Ideal) m c t y = last (xr m c t ⟨(y 0).val + 16, by have := (y 0).isLt; simp at this; omega⟩)
      (gate (decide (t.val % 2 = 0)) (xr m c t) (iblk m c 14 t) (iblk m c 15 t) (iblk m c 16 t) (iblk m c 17 t) (y 0))
      (fun f j => iblk m c 18 t (ix2 f j)) (fun j => iblk m c 19 t (ix2 0 j)) (fun j => iblk m c 20 t (ix2 0 j)) (fun k => iblk m c 13 t (ix2 (y 0) k))
      (fun k j => iblk m c 21 t (ix2 k j)) (fun k j => iblk m c 22 t (ix2 k j)) (y 1) := by
  unfold outsAt0
  frame_out
  rw [half_eq t, eq_ix2 y]
  rw [scratch_eq _ (gates (k0_pay4 (F := Ideal) (half (decide (t.val % 2 = 0))) (k0_pay2 (F := Ideal) (iblk m c 4 t) (iblk m c 3 t) (iblk m c 5 t) (iblk m c 9 t) (iblk m c 7 t) (iblk m c 6 t) (iblk m c 8 t) (iblk m c 10 t) (iblk m c 1 t) (iblk m c 0 t) (iblk m c 2 t)) (iblk m c 11 t) (iblk m c 12 t))
    (k0_pay5 (F := Ideal) (half (decide (t.val % 2 = 0))) (k0_pay2 (F := Ideal) (iblk m c 4 t) (iblk m c 3 t) (iblk m c 5 t) (iblk m c 9 t) (iblk m c 7 t) (iblk m c 6 t) (iblk m c 8 t) (iblk m c 10 t) (iblk m c 1 t) (iblk m c 0 t) (iblk m c 2 t)) (iblk m c 11 t) (iblk m c 12 t))
    (iblk m c 14 t) (iblk m c 15 t) (iblk m c 16 t) (iblk m c 17 t))]
  · refine (result_apply _ _ _ _ _ _ _ _ (y 0) (y 1)).trans ?_
    refine congrFun (congr (congr (congr (congr (congr (congr (congr (congrArg last ?_) ?_) rfl) rfl) rfl) rfl) rfl) rfl) _
    · funext j
      exact (pay6_apply _ _ _ _ _).trans (normed m c t _ j)
    · funext f
      exact gates_of _ _ _ (xr m c t) (fun s k => by rw [pay4_apply, normed]) (fun r k => pay5_apply _ _ _ _ r k) _ _ _ _ _ _
  · rw [chunk0]; exact chunk_fits _ _ _ _ _ _ _ _ _ _
  · rw [chunk1]; exact chunk_fits _ _ _ _ _ _ _ _ _ _
  · rw [chunk2]; exact chunk_fits _ _ _ _ _ _ _ _ _ _
  · rw [chunk3]; exact chunk_fits _ _ _ _ _ _ _ _ _ _
  · rw [chunk4]; exact chunk_fits _ _ _ _ _ _ _ _ _ _
  · rw [chunk5]; exact chunk_fits _ _ _ _ _ _ _ _ _ _
  · rw [chunk6]; exact chunk_fits _ _ _ _ _ _ _ _ _ _
  · rw [chunk7]; exact chunk_fits _ _ _ _ _ _ _ _ _ _
  · rw [chunk8]; exact chunk_fits _ _ _ _ _ _ _ _ _ _
  · rw [chunk9]; exact chunk_fits _ _ _ _ _ _ _ _ _ _
  · rw [chunk10]; exact chunk_fits _ _ _ _ _ _ _ _ _ _

theorem gate_eq (c : Dev nD) (t : Fin cfg0.N) (r : Fin 1024) (b : Fin 16) (q : Fin 2048) (hR : b.val * 2048 + q.val = t.val * 1024 + r.val) (f : Fin 2816) :
    gate (decide (t.val % 2 = 0)) (xr m c t) (iblk m c 14 t) (iblk m c 15 t) (iblk m c 16 t) (iblk m c 17 t) r f
    = rowH (XOf m c b) (wgOf m c) (wuOf m c) (cwOf m c) (cbOf m c) q f := by
  have ht := t_lt t
  refine (gate_row _ (t.val * 1024 - b.val * 2048) ?_ _ (XOf m c b) (fun s q h hs => xrow_eq m c t s h b q (by omega)) _ _ _ _ r q (by omega) f).trans ?_
  · by_cases e : t.val % 2 = 0 <;> simp [e] <;> omega
  refine congrFun (congrFun (congr (congr (congr (congrArg (rowH _) ?_) ?_) ?_) ?_) _) _
  · funext k f; exact (iblk14 m c t k f).trans (V_wg m c k f)
  · funext k f; exact (iblk15 m c t k f).trans (V_wu m c k f)
  · funext k f; exact (iblk16 m c t k f).trans (V_cw m c k f)
  · funext f; exact (iblk17 m c t 0 f).trans (V_cb m c f)

/-- The kernel's result as a function of the launched arrays. -/
def arr (c : Dev nD) : FVec Ideal S32768x1024 .f32 := fun i =>
  tail (xOf m c) (oOf m c) (wOf m c) (mgOf m c) (mbOf m c) (pOf m c) (wgOf m c) (wuOf m c) (cwOf m c) (cbOf m c) (wdOf m c) (fgOf m c) (fbOf m c)
    (pgOf m c) (ppOf m c) ⟨(i 0).val / 2048, by have := (i 0).isLt; simp at this; omega⟩ ⟨(i 0).val % 2048, by omega⟩ (i 1)

theorem tile_eq (c : Dev nD) (t : Fin cfg0.N) (r j : Fin 1024) (R : Fin 32768) (hR : R.val = t.val * 1024 + r.val) :
    outsAt0 (F := Ideal) m c t (ix2 r j) = arr m c (ix2 R j) := by
  rw [block]
  have hb : (R.val / 2048) * 2048 + R.val % 2048 = t.val * 1024 + r.val := by omega
  unfold arr tail
  refine congrFun (congr (congr (congr (congr (congr (congr (congr (congrArg last ?_) ?_) ?_) ?_) ?_) ?_) ?_) ?_) _
  · exact xrow_eq m c t _ (inside_mid _ r) ⟨R.val / 2048, by omega⟩ ⟨R.val % 2048, by omega⟩
      (by show R.val / 2048 * 2048 + R.val % 2048 + 16 = t.val * 1024 + (r.val + 16); omega)
  · funext f; exact gate_eq m c t r ⟨R.val / 2048, by omega⟩ ⟨R.val % 2048, by omega⟩ hb f
  · funext f j; exact (iblk18 m c t f j).trans (V_wd m c f j)
  · funext j; exact (iblk19 m c t 0 j).trans (V_fg m c j)
  · funext j; exact (iblk20 m c t 0 j).trans (V_fb m c j)
  · funext k
    refine (iblk13 m c t r k).trans ((congrArg (fun R : Fin 32768 => V m c main_v10 (ix2 R k)) (Fin.ext hR.symm)).trans (V_p m c R k))
  · funext k j; exact (iblk21 m c t k j).trans (V_pg m c k j)
  · funext k j; exact (iblk22 m c t k j).trans (V_pp m c k j)

theorem final (c : Dev nD) : (dats m 0 c).arrAt 23 (cfgs 0).N = arr m c := by
  refine (dats m 0 c).arrAt_eq_of_covers 23 _ (by decide +kernel) fun t hf y => ?_
  blk_simp
  rw [after0_23]
  have ht := t_lt t
  refine ((congrArg (outsAt0 (F := Ideal) m c t) (eq_ix2 y)).trans
    (tile_eq m c t (y 0) (y 1) ⟨t.val * 1024 + (y 0).val, by have := (y 0).isLt; simp at this; omega⟩ rfl)).trans (congrArg (arr m c) ?_)
  blk_ext [idx t]

end Cert.Tail0Ideal.Tile

end
-- ==== Proof.Tail0Ref.lean ====
/- The reference of layer 0's last part is layer 1's, with the two mixers' outputs side by side. -/
module

public import proofs.«01_k».proof.Proof.Gen.Tail0RefIdeal.Read
public import proofs.«01_k».proof.Proof.TailRef

@[expose] public section

set_option maxRecDepth 16384

noncomputable section

namespace Cert.Tail0RefIdeal.Tile

open Idealize.ShloMosaic Idealize.ShloMosaic.TcCoe Idealize.SL.Sem
open Cert.Tail0RefIdeal Cert.Tail0RefIdeal.Gen Cert.Tail0RefIdeal.Read Cert.Rows
open Cert.TailRefIdeal.Tile (normStage mixStage convStage padStage upStage hidStage downStage embedStage)

/-- The two mixers' outputs side by side. -/
theorem cat_apply (x1 x2 : FVec Ideal S16x2048x512 .f32) (b : Fin 16) (s : Fin 2048) (k : Fin 1024) :
    val_main_v0 (F := Ideal) x1 x2 (ix3 b s k) = if h : k.val < 512 then x1 (ix3 b s ⟨k.val, h⟩) else x2 (ix3 b s ⟨k.val - 512, by omega⟩) := by
  pointwise [val_main_v0]

theorem x_eq (x0 : FVec Ideal S16x2048x1024 .f32) (x1 x2 : FVec Ideal S16x2048x512 .f32) (x3 : FVec Ideal S1024x1024 .f32) (x4 x5 : FVec Ideal S1024 .f32) :
    val_main_v28 (F := Ideal) x0 x1 x2 x3 x4 x5 = normStage (mixStage x0 (val_main_v0 (F := Ideal) x1 x2) x3) x4 x5 := rfl

theorem conv_eq (x0 : FVec Ideal S16x2048x1024 .f32) (x1 x2 : FVec Ideal S16x2048x512 .f32) (x3 : FVec Ideal S1024x1024 .f32) (x4 x5 : FVec Ideal S1024 .f32)
    (x7 : FVec Ideal S1024x2816 .f32) (x9 : FVec Ideal S3x2816 .f32) (x10 : FVec Ideal S2816 .f32) :
    val_main_v56 (F := Ideal) x0 x1 x2 x3 x4 x5 x7 x9 x10 = convStage (padStage (upStage (val_main_v28 (F := Ideal) x0 x1 x2 x3 x4 x5) x7)) x9 x10 := rfl

theorem hid_eq (x0 : FVec Ideal S16x2048x1024 .f32) (x1 x2 : FVec Ideal S16x2048x512 .f32) (x3 : FVec Ideal S1024x1024 .f32) (x4 x5 : FVec Ideal S1024 .f32)
    (x7 x8 : FVec Ideal S1024x2816 .f32) (x9 : FVec Ideal S3x2816 .f32) (x10 : FVec Ideal S2816 .f32) :
    val_main_v70 (F := Ideal) x0 x1 x2 x3 x4 x5 x7 x8 x9 x10
    = hidStage (val_main_v56 (F := Ideal) x0 x1 x2 x3 x4 x5 x7 x9 x10) (upStage (val_main_v28 (F := Ideal) x0 x1 x2 x3 x4 x5) x8) := rfl

theorem y_eq (x0 : FVec Ideal S16x2048x1024 .f32) (x1 x2 : FVec Ideal S16x2048x512 .f32) (x3 : FVec Ideal S1024x1024 .f32) (x4 x5 : FVec Ideal S1024 .f32)
    (x7 x8 : FVec Ideal S1024x2816 .f32) (x9 : FVec Ideal S3x2816 .f32) (x10 : FVec Ideal S2816 .f32) (x11 : FVec Ideal S2816x1024 .f32) (x12 x13 : FVec Ideal S1024 .f32) :
    val_main_v96 (F := Ideal) x0 x1 x2 x3 x4 x5 x7 x8 x9 x10 x11 x12 x13
    = normStage (downStage (val_main_v28 (F := Ideal) x0 x1 x2 x3 x4 x5) (val_main_v70 (F := Ideal) x0 x1 x2 x3 x4 x5 x7 x8 x9 x10) x11) x12 x13 := rfl

theorem out_eq (x0 : FVec Ideal S16x2048x1024 .f32) (x1 x2 : FVec Ideal S16x2048x512 .f32) (x3 : FVec Ideal S1024x1024 .f32) (x4 x5 : FVec Ideal S1024 .f32)
    (x6 : FVec Ideal S16x2048x256 .f32) (x7 x8 : FVec Ideal S1024x2816 .f32) (x9 : FVec Ideal S3x2816 .f32) (x10 : FVec Ideal S2816 .f32)
    (x11 : FVec Ideal S2816x1024 .f32) (x12 x13 : FVec Ideal S1024 .f32) (x14 : FVec Ideal S1024x1024 .f32) (x15 : FVec Ideal S256x1024 .f32) :
    val_main_v107 (F := Ideal) x0 x1 x2 x3 x4 x5 x6 x7 x8 x9 x10 x11 x12 x13 x14 x15
    = embedStage (val_main_v96 (F := Ideal) x0 x1 x2 x3 x4 x5 x7 x8 x9 x10 x11 x12 x13) x6 x14 x15 := rfl

/-- The reference is layer 1's, over the two outputs side by side. -/
theorem same (x0 : FVec Ideal S16x2048x1024 .f32) (x1 x2 : FVec Ideal S16x2048x512 .f32) (x3 : FVec Ideal S1024x1024 .f32) (x4 x5 : FVec Ideal S1024 .f32)
    (x6 : FVec Ideal S16x2048x256 .f32) (x7 x8 : FVec Ideal S1024x2816 .f32) (x9 : FVec Ideal S3x2816 .f32) (x10 : FVec Ideal S2816 .f32)
    (x11 : FVec Ideal S2816x1024 .f32) (x12 x13 : FVec Ideal S1024 .f32) (x14 : FVec Ideal S1024x1024 .f32) (x15 : FVec Ideal S256x1024 .f32) :
    val_main_v107 (F := Ideal) x0 x1 x2 x3 x4 x5 x6 x7 x8 x9 x10 x11 x12 x13 x14 x15
    = Cert.TailRefIdeal.Read.val_main_v106 (F := Ideal) x0 (val_main_v0 (F := Ideal) x1 x2) x3 x4 x5 x6 x7 x8 x9 x10 x11 x12 x13 x14 x15 := by
  rw [out_eq, y_eq, hid_eq, conv_eq, x_eq, Cert.TailRefIdeal.Tile.out_eq, Cert.TailRefIdeal.Tile.y_eq, Cert.TailRefIdeal.Tile.hid_eq, Cert.TailRefIdeal.Tile.conv_eq,
    Cert.TailRefIdeal.Tile.x_eq]

/-- The reference's result, at an element. -/
theorem result_apply (x0 : FVec Ideal S16x2048x1024 .f32) (x1 x2 : FVec Ideal S16x2048x512 .f32) (x3 : FVec Ideal S1024x1024 .f32) (x4 x5 : FVec Ideal S1024 .f32)
    (x6 : FVec Ideal S16x2048x256 .f32) (x7 x8 : FVec Ideal S1024x2816 .f32) (x9 : FVec Ideal S3x2816 .f32) (x10 : FVec Ideal S2816 .f32)
    (x11 : FVec Ideal S2816x1024 .f32) (x12 x13 : FVec Ideal S1024 .f32) (x14 : FVec Ideal S1024x1024 .f32) (x15 : FVec Ideal S256x1024 .f32) (R : Fin 32768) (j : Fin 1024) :
    val_main_v107 (F := Ideal) x0 x1 x2 x3 x4 x5 x6 x7 x8 x9 x10 x11 x12 x13 x14 x15 (ix2 R j)
    = tail (fun b s k => x0 (ix3 b s k)) (fun b s k => if h : k.val < 512 then x1 (ix3 b s ⟨k.val, h⟩) else x2 (ix3 b s ⟨k.val - 512, by omega⟩))
        (fun k j => x3 (ix2 k j)) (fun j => x4 (ix1 j)) (fun j => x5 (ix1 j))
        (fun b s k => x6 (ix3 b s k)) (fun k j => x7 (ix2 k j)) (fun k j => x8 (ix2 k j)) (fun k j => x9 (ix2 k j)) (fun j => x10 (ix1 j))
        (fun k j => x11 (ix2 k j)) (fun j => x12 (ix1 j)) (fun j => x13 (ix1 j)) (fun k j => x14 (ix2 k j)) (fun k j => x15 (ix2 k j))
        ⟨R.val / 2048, by omega⟩ ⟨R.val % 2048, by omega⟩ j := by
  rw [same]
  refine (Cert.TailRefIdeal.Tile.result_apply _ _ _ _ _ _ _ _ _ _ _ _ _ _ _ R j).trans ?_
  simp only [cat_apply]

end Cert.Tail0RefIdeal.Tile

end
-- ==== Proof.lean ====
/- The proof of the certificate: the frames of the kernel and of its reference, and that the two give equal results. -/
module

public import proofs.«01_k».proof.Defs
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.DiffRefIdeal.Read
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Tail0
public import proofs.«01_k».proof.Proof.Gen.Tail0Ideal
public import proofs.«01_k».proof.Proof.Gen.Tail0RefIdeal
public import proofs.«01_k».proof.Proof.Gen.Tail0RefIdeal.Run
public import proofs.«01_k».proof.Proof.Gen.Tail0RefIdeal.Read
public import proofs.«01_k».proof.Proof.Gen.Pre_finite
public import proofs.«01_k».proof.Proof.DiffMath
public import proofs.«01_k».proof.Proof.DiffPre
public import proofs.«01_k».proof.Proof.TailValue
public import proofs.«01_k».proof.Proof.TailRef
public import proofs.«01_k».proof.Proof.Tail0Value
public import proofs.«01_k».proof.Proof.Tail0BitsFrame
public import proofs.«01_k».proof.Proof.Tail0Ref
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

attribute [local instance] Cert.Diff.Gen.facts Cert.DiffIdeal.Gen.facts Cert.DiffRefIdeal.Gen.facts Cert.Pre_finite.Gen.facts
  Cert.Tail.Gen.facts Cert.TailIdeal.Gen.facts Cert.TailRefIdeal.Gen.facts Cert.Tail0.Gen.facts Cert.Tail0Ideal.Gen.facts Cert.Tail0RefIdeal.Gen.facts

/-- The kernel and its idealization terminate and leave their arguments as launched. -/
theorem frame_diff : Cert.quiescent_Diff := fun m ρ _ => Cert.Diff.Gen.frame m ρ
/-- The same of the idealized kernel. -/
theorem frame_diff_ideal : Cert.quiescent_DiffIdeal := fun m ρ _ => Cert.DiffIdeal.Gen.frame m ρ
/-- The same under the precondition. -/
theorem frame_diff_ideal_pre : Cert.quiescent_DiffIdeal_pre_finite := fun m ρ _ => Cert.DiffIdeal.Gen.frame m ρ

/-- So does the reference. -/
theorem frame_ref_run (m : (ℓ : Loc Cert.DiffRefIdeal.nD Cert.DiffRefIdeal.τ Cert.DiffRefIdeal.sig) → Buf (Elt Ideal) ℓ) (ρ : Dev Cert.DiffRefIdeal.nD → PrngReg) :
    θ_run (Cert.DiffRefIdeal.defs (F := Ideal)) (onTc (τ := Cert.DiffRefIdeal.τ) (Cert.DiffRefIdeal.main (F := Ideal))) ⟨m, fun _ => 0, ρ⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0) :=
  (θ_run _ _ _).mono (fun r h => ⟨fun c => (h c).2, sem_eq_zero_of_no_sems rfl _⟩) (Cert.DiffRefIdeal.Value.run m ρ)

/-- The same, as the certificate states them. -/
theorem frame_ref : Cert.quiescent_DiffRefIdeal := fun m ρ _ => frame_ref_run m ρ
/-- The same under the precondition. -/
theorem frame_ref_pre : Cert.quiescent_DiffRefIdeal_pre_finite := fun m ρ _ => frame_ref_run m ρ

/-- The two results over one memory's arguments. -/
theorem diff_results (m : (ℓ : Loc Cert.DiffIdeal.nD Cert.DiffIdeal.τ Cert.DiffIdeal.sig) → Buf (Elt Ideal) ℓ) (hpre : Cert.Pre_DiffIdeal_finite m)
    (c : Dev Cert.DiffIdeal.nD) :
    Cert.DiffRefIdeal.Read.val_main_v58 (F := Ideal) (m ((c.tc : Thread Cert.DiffIdeal.nD Cert.DiffIdeal.τ).loc Cert.DiffIdeal.main_arg0))
        (m ((c.tc : Thread Cert.DiffIdeal.nD Cert.DiffIdeal.τ).loc Cert.DiffIdeal.main_arg1)) (m ((c.tc : Thread Cert.DiffIdeal.nD Cert.DiffIdeal.τ).loc Cert.DiffIdeal.main_arg2))
        (m ((c.tc : Thread Cert.DiffIdeal.nD Cert.DiffIdeal.τ).loc Cert.DiffIdeal.main_arg3)) (m ((c.tc : Thread Cert.DiffIdeal.nD Cert.DiffIdeal.τ).loc Cert.DiffIdeal.main_arg4))
      = Cert.DiffIdeal.Tile.arr (m ((c.tc : Thread Cert.DiffIdeal.nD Cert.DiffIdeal.τ).loc Cert.DiffIdeal.main_arg0)) (Cert.DiffIdeal.Tile.gainOf m c) (Cert.DiffIdeal.Tile.queryOf m c)
          (m ((c.tc : Thread Cert.DiffIdeal.nD Cert.DiffIdeal.τ).loc Cert.DiffIdeal.main_arg3)) (m ((c.tc : Thread Cert.DiffIdeal.nD Cert.DiffIdeal.τ).loc Cert.DiffIdeal.main_arg4)) := by
  obtain ⟨⟨X0, h0⟩, ⟨X2, h2⟩, ⟨X3, h3⟩, ⟨X4, h4⟩⟩ := Cert.Pre_finite.Real.finite_real _ _ _ _ _ (hpre c)
  have e2 : Cert.DiffIdeal.Tile.queryOf m c = fun i => (X2 i : EReal) := h2
  have key := Cert.DiffIdeal.Tile.arr_eq (fun i => (X0 i : EReal)) (Cert.DiffIdeal.Tile.gainOf m c) (Cert.DiffIdeal.Tile.lamOf X0)
    (Cert.DiffIdeal.Tile.lam_ref X0) (Cert.DiffIdeal.Tile.lam_kernel X0) X2 X3 X4
  rw [e2, h0, h2, h3, h4]
  exact key

/-- The kernel's result is the reference's. -/
theorem algebraic_diff : Cert.algebraic_DiffIdeal_DiffRefIdeal_pre_finite := by
  pair_intro
  · run_from Cert.DiffIdeal.Value.run_blocks m g
  · run_from Cert.DiffRefIdeal.Value.run m' g'
    rw [Cert.DiffRefIdeal.Read.val_main_v58_eq m' c, (hagree c).1, (hagree c).2.1, (hagree c).2.2.1, (hagree c).2.2.2.1, (hagree c).2.2.2.2]
    exact (diff_results m hpre c).trans (Cert.DiffIdeal.Tile.final m c).symm

/-- The kernel of the layer's last part and its idealization terminate and leave their arguments as launched. -/
theorem frame_tail : Cert.quiescent_Tail := fun m ρ _ => Cert.Tail.Gen.frame m ρ
/-- The same of the idealized kernel. -/
theorem frame_tail_ideal : Cert.quiescent_TailIdeal := fun m ρ _ => Cert.TailIdeal.Gen.frame m ρ
/-- So does its reference. -/
theorem frame_tail_ref : Cert.quiescent_TailRefIdeal := fun m ρ _ =>
  (θ_run _ _ _).mono (fun r h => ⟨fun c => (h c).2, sem_eq_zero_of_no_sems rfl _⟩) (Cert.TailRefIdeal.Value.run m ρ)

/-- The two results of the last part over one memory's arguments. -/
theorem tail_results (m : (ℓ : Loc Cert.TailIdeal.nD Cert.TailIdeal.τ Cert.TailIdeal.sig) → Buf (Elt Ideal) ℓ) (c : Dev Cert.TailIdeal.nD) :
    Cert.TailRefIdeal.Read.val_main_v106 (F := Ideal) (m ((c.tc : Thread Cert.TailIdeal.nD Cert.TailIdeal.τ).loc Cert.TailIdeal.main_arg0)) (m ((c.tc : Thread Cert.TailIdeal.nD Cert.TailIdeal.τ).loc Cert.TailIdeal.main_arg1))
        (m ((c.tc : Thread Cert.TailIdeal.nD Cert.TailIdeal.τ).loc Cert.TailIdeal.main_arg2)) (m ((c.tc : Thread Cert.TailIdeal.nD Cert.TailIdeal.τ).loc Cert.TailIdeal.main_arg3))
        (m ((c.tc : Thread Cert.TailIdeal.nD Cert.TailIdeal.τ).loc Cert.TailIdeal.main_arg4)) (m ((c.tc : Thread Cert.TailIdeal.nD Cert.TailIdeal.τ).loc Cert.TailIdeal.main_arg5))
        (m ((c.tc : Thread Cert.TailIdeal.nD Cert.TailIdeal.τ).loc Cert.TailIdeal.main_arg6)) (m ((c.tc : Thread Cert.TailIdeal.nD Cert.TailIdeal.τ).loc Cert.TailIdeal.main_arg7))
        (m ((c.tc : Thread Cert.TailIdeal.nD Cert.TailIdeal.τ).loc Cert.TailIdeal.main_arg8)) (m ((c.tc : Thread Cert.TailIdeal.nD Cert.TailIdeal.τ).loc Cert.TailIdeal.main_arg9))
        (m ((c.tc : Thread Cert.TailIdeal.nD Cert.TailIdeal.τ).loc Cert.TailIdeal.main_arg10)) (m ((c.tc : Thread Cert.TailIdeal.nD Cert.TailIdeal.τ).loc Cert.TailIdeal.main_arg11))
        (m ((c.tc : Thread Cert.TailIdeal.nD Cert.TailIdeal.τ).loc Cert.TailIdeal.main_arg12)) (m ((c.tc : Thread Cert.TailIdeal.nD Cert.TailIdeal.τ).loc Cert.TailIdeal.main_arg13))
        (m ((c.tc : Thread Cert.TailIdeal.nD Cert.TailIdeal.τ).loc Cert.TailIdeal.main_arg14))
      = Cert.TailIdeal.Tile.arr m c := by
  funext i
  have e := Cert.TailRefIdeal.Tile.result_apply (m ((c.tc : Thread Cert.TailIdeal.nD Cert.TailIdeal.τ).loc Cert.TailIdeal.main_arg0)) (m ((c.tc : Thread Cert.TailIdeal.nD Cert.TailIdeal.τ).loc Cert.TailIdeal.main_arg1))
    (m ((c.tc : Thread Cert.TailIdeal.nD Cert.TailIdeal.τ).loc Cert.TailIdeal.main_arg2)) (m ((c.tc : Thread Cert.TailIdeal.nD Cert.TailIdeal.τ).loc Cert.TailIdeal.main_arg3))
    (m ((c.tc : Thread Cert.TailIdeal.nD Cert.TailIdeal.τ).loc Cert.TailIdeal.main_arg4)) (m ((c.tc : Thread Cert.TailIdeal.nD Cert.TailIdeal.τ).loc Cert.TailIdeal.main_arg5))
    (m ((c.tc : Thread Cert.TailIdeal.nD Cert.TailIdeal.τ).loc Cert.TailIdeal.main_arg6)) (m ((c.tc : Thread Cert.TailIdeal.nD Cert.TailIdeal.τ).loc Cert.TailIdeal.main_arg7))
    (m ((c.tc : Thread Cert.TailIdeal.nD Cert.TailIdeal.τ).loc Cert.TailIdeal.main_arg8)) (m ((c.tc : Thread Cert.TailIdeal.nD Cert.TailIdeal.τ).loc Cert.TailIdeal.main_arg9))
    (m ((c.tc : Thread Cert.TailIdeal.nD Cert.TailIdeal.τ).loc Cert.TailIdeal.main_arg10)) (m ((c.tc : Thread Cert.TailIdeal.nD Cert.TailIdeal.τ).loc Cert.TailIdeal.main_arg11))
    (m ((c.tc : Thread Cert.TailIdeal.nD Cert.TailIdeal.τ).loc Cert.TailIdeal.main_arg12)) (m ((c.tc : Thread Cert.TailIdeal.nD Cert.TailIdeal.τ).loc Cert.TailIdeal.main_arg13))
    (m ((c.tc : Thread Cert.TailIdeal.nD Cert.TailIdeal.τ).loc Cert.TailIdeal.main_arg14)) (i 0) (i 1)
  rw [← eq_ix2 i] at e
  exact e

/-- The last part's result is its reference's. -/
theorem algebraic_tail : Cert.algebraic_TailIdeal_TailRefIdeal := by
  pair_intro
  · run_from Cert.TailIdeal.Value.run_blocks m g
  · run_from Cert.TailRefIdeal.Value.run m' g'
    have e := Cert.TailRefIdeal.Read.val_main_v106_eq (StableHlo.launchContents m' c)
    rw [show StableHlo.launchContents m' c (Proc.devRef .tc Cert.TailRefIdeal.main_arg0) = m ((c.tc : Thread Cert.TailIdeal.nD Cert.TailIdeal.τ).loc Cert.TailIdeal.main_arg0) from (hagree c).1,
      show StableHlo.launchContents m' c (Proc.devRef .tc Cert.TailRefIdeal.main_arg1) = m ((c.tc : Thread Cert.TailIdeal.nD Cert.TailIdeal.τ).loc Cert.TailIdeal.main_arg1) from (hagree c).2.1,
      show StableHlo.launchContents m' c (Proc.devRef .tc Cert.TailRefIdeal.main_arg2) = m ((c.tc : Thread Cert.TailIdeal.nD Cert.TailIdeal.τ).loc Cert.TailIdeal.main_arg2) from (hagree c).2.2.1,
      show StableHlo.launchContents m' c (Proc.devRef .tc Cert.TailRefIdeal.main_arg3) = m ((c.tc : Thread Cert.TailIdeal.nD Cert.TailIdeal.τ).loc Cert.TailIdeal.main_arg3) from (hagree c).2.2.2.1,
      show StableHlo.launchContents m' c (Proc.devRef .tc Cert.TailRefIdeal.main_arg4) = m ((c.tc : Thread Cert.TailIdeal.nD Cert.TailIdeal.τ).loc Cert.TailIdeal.main_arg4) from (hagree c).2.2.2.2.1,
      show StableHlo.launchContents m' c (Proc.devRef .tc Cert.TailRefIdeal.main_arg5) = m ((c.tc : Thread Cert.TailIdeal.nD Cert.TailIdeal.τ).loc Cert.TailIdeal.main_arg5) from (hagree c).2.2.2.2.2.1,
      show StableHlo.launchContents m' c (Proc.devRef .tc Cert.TailRefIdeal.main_arg6) = m ((c.tc : Thread Cert.TailIdeal.nD Cert.TailIdeal.τ).loc Cert.TailIdeal.main_arg6) from (hagree c).2.2.2.2.2.2.1,
      show StableHlo.launchContents m' c (Proc.devRef .tc Cert.TailRefIdeal.main_arg7) = m ((c.tc : Thread Cert.TailIdeal.nD Cert.TailIdeal.τ).loc Cert.TailIdeal.main_arg7) from (hagree c).2.2.2.2.2.2.2.1,
      show StableHlo.launchContents m' c (Proc.devRef .tc Cert.TailRefIdeal.main_arg8) = m ((c.tc : Thread Cert.TailIdeal.nD Cert.TailIdeal.τ).loc Cert.TailIdeal.main_arg8) from (hagree c).2.2.2.2.2.2.2.2.1,
      show StableHlo.launchContents m' c (Proc.devRef .tc Cert.TailRefIdeal.main_arg9) = m ((c.tc : Thread Cert.TailIdeal.nD Cert.TailIdeal.τ).loc Cert.TailIdeal.main_arg9) from (hagree c).2.2.2.2.2.2.2.2.2.1,
      show StableHlo.launchContents m' c (Proc.devRef .tc Cert.TailRefIdeal.main_arg10) = m ((c.tc : Thread Cert.TailIdeal.nD Cert.TailIdeal.τ).loc Cert.TailIdeal.main_arg10) from (hagree c).2.2.2.2.2.2.2.2.2.2.1,
      show StableHlo.launchContents m' c (Proc.devRef .tc Cert.TailRefIdeal.main_arg11) = m ((c.tc : Thread Cert.TailIdeal.nD Cert.TailIdeal.τ).loc Cert.TailIdeal.main_arg11) from (hagree c).2.2.2.2.2.2.2.2.2.2.2.1,
      show StableHlo.launchContents m' c (Proc.devRef .tc Cert.TailRefIdeal.main_arg12) = m ((c.tc : Thread Cert.TailIdeal.nD Cert.TailIdeal.τ).loc Cert.TailIdeal.main_arg12) from (hagree c).2.2.2.2.2.2.2.2.2.2.2.2.1,
      show StableHlo.launchContents m' c (Proc.devRef .tc Cert.TailRefIdeal.main_arg13) = m ((c.tc : Thread Cert.TailIdeal.nD Cert.TailIdeal.τ).loc Cert.TailIdeal.main_arg13) from (hagree c).2.2.2.2.2.2.2.2.2.2.2.2.2.1,
      show StableHlo.launchContents m' c (Proc.devRef .tc Cert.TailRefIdeal.main_arg14) = m ((c.tc : Thread Cert.TailIdeal.nD Cert.TailIdeal.τ).loc Cert.TailIdeal.main_arg14) from (hagree c).2.2.2.2.2.2.2.2.2.2.2.2.2.2] at e
    exact e.trans ((tail_results m c).trans (Cert.TailIdeal.Tile.final m c).symm)

/-- Layer 0's last part terminates and leaves its arguments as launched. -/
theorem frame_tail0 : Cert.quiescent_Tail0 := fun m ρ _ => Cert.Tail0.Gen.frame m ρ
/-- The same of its idealization. -/
theorem frame_tail0_ideal : Cert.quiescent_Tail0Ideal := fun m ρ _ => Cert.Tail0Ideal.Gen.frame m ρ
/-- So does its reference. -/
theorem frame_tail0_ref : Cert.quiescent_Tail0RefIdeal := fun m ρ _ =>
  (θ_run _ _ _).mono (fun r h => ⟨fun c => (h c).2, sem_eq_zero_of_no_sems rfl _⟩) (Cert.Tail0RefIdeal.Value.run m ρ)

/-- The two results of layer 0's last part over one memory's arguments. -/
theorem tail0_results (m : (ℓ : Loc Cert.Tail0Ideal.nD Cert.Tail0Ideal.τ Cert.Tail0Ideal.sig) → Buf (Elt Ideal) ℓ) (c : Dev Cert.Tail0Ideal.nD) :
    Cert.Tail0RefIdeal.Read.val_main_v107 (F := Ideal)
        (m ((c.tc : Thread Cert.Tail0Ideal.nD Cert.Tail0Ideal.τ).loc Cert.Tail0Ideal.main_arg0)) (m ((c.tc : Thread Cert.Tail0Ideal.nD Cert.Tail0Ideal.τ).loc Cert.Tail0Ideal.main_arg1))
        (m ((c.tc : Thread Cert.Tail0Ideal.nD Cert.Tail0Ideal.τ).loc Cert.Tail0Ideal.main_arg2)) (m ((c.tc : Thread Cert.Tail0Ideal.nD Cert.Tail0Ideal.τ).loc Cert.Tail0Ideal.main_arg3))
        (m ((c.tc : Thread Cert.Tail0Ideal.nD Cert.Tail0Ideal.τ).loc Cert.Tail0Ideal.main_arg4)) (m ((c.tc : Thread Cert.Tail0Ideal.nD Cert.Tail0Ideal.τ).loc Cert.Tail0Ideal.main_arg5))
        (m ((c.tc : Thread Cert.Tail0Ideal.nD Cert.Tail0Ideal.τ).loc Cert.Tail0Ideal.main_arg6)) (m ((c.tc : Thread Cert.Tail0Ideal.nD Cert.Tail0Ideal.τ).loc Cert.Tail0Ideal.main_arg7))
        (m ((c.tc : Thread Cert.Tail0Ideal.nD Cert.Tail0Ideal.τ).loc Cert.Tail0Ideal.main_arg8)) (m ((c.tc : Thread Cert.Tail0Ideal.nD Cert.Tail0Ideal.τ).loc Cert.Tail0Ideal.main_arg9))
        (m ((c.tc : Thread Cert.Tail0Ideal.nD Cert.Tail0Ideal.τ).loc Cert.Tail0Ideal.main_arg10)) (m ((c.tc : Thread Cert.Tail0Ideal.nD Cert.Tail0Ideal.τ).loc Cert.Tail0Ideal.main_arg11))
        (m ((c.tc : Thread Cert.Tail0Ideal.nD Cert.Tail0Ideal.τ).loc Cert.Tail0Ideal.main_arg12)) (m ((c.tc : Thread Cert.Tail0Ideal.nD Cert.Tail0Ideal.τ).loc Cert.Tail0Ideal.main_arg13))
        (m ((c.tc : Thread Cert.Tail0Ideal.nD Cert.Tail0Ideal.τ).loc Cert.Tail0Ideal.main_arg14)) (m ((c.tc : Thread Cert.Tail0Ideal.nD Cert.Tail0Ideal.τ).loc Cert.Tail0Ideal.main_arg15))
      = Cert.Tail0Ideal.Tile.arr m c := by
  funext i
  have e := Cert.Tail0RefIdeal.Tile.result_apply
    (m ((c.tc : Thread Cert.Tail0Ideal.nD Cert.Tail0Ideal.τ).loc Cert.Tail0Ideal.main_arg0)) (m ((c.tc : Thread Cert.Tail0Ideal.nD Cert.Tail0Ideal.τ).loc Cert.Tail0Ideal.main_arg1))
    (m ((c.tc : Thread Cert.Tail0Ideal.nD Cert.Tail0Ideal.τ).loc Cert.Tail0Ideal.main_arg2)) (m ((c.tc : Thread Cert.Tail0Ideal.nD Cert.Tail0Ideal.τ).loc Cert.Tail0Ideal.main_arg3))
    (m ((c.tc : Thread Cert.Tail0Ideal.nD Cert.Tail0Ideal.τ).loc Cert.Tail0Ideal.main_arg4)) (m ((c.tc : Thread Cert.Tail0Ideal.nD Cert.Tail0Ideal.τ).loc Cert.Tail0Ideal.main_arg5))
    (m ((c.tc : Thread Cert.Tail0Ideal.nD Cert.Tail0Ideal.τ).loc Cert.Tail0Ideal.main_arg6)) (m ((c.tc : Thread Cert.Tail0Ideal.nD Cert.Tail0Ideal.τ).loc Cert.Tail0Ideal.main_arg7))
    (m ((c.tc : Thread Cert.Tail0Ideal.nD Cert.Tail0Ideal.τ).loc Cert.Tail0Ideal.main_arg8)) (m ((c.tc : Thread Cert.Tail0Ideal.nD Cert.Tail0Ideal.τ).loc Cert.Tail0Ideal.main_arg9))
    (m ((c.tc : Thread Cert.Tail0Ideal.nD Cert.Tail0Ideal.τ).loc Cert.Tail0Ideal.main_arg10)) (m ((c.tc : Thread Cert.Tail0Ideal.nD Cert.Tail0Ideal.τ).loc Cert.Tail0Ideal.main_arg11))
    (m ((c.tc : Thread Cert.Tail0Ideal.nD Cert.Tail0Ideal.τ).loc Cert.Tail0Ideal.main_arg12)) (m ((c.tc : Thread Cert.Tail0Ideal.nD Cert.Tail0Ideal.τ).loc Cert.Tail0Ideal.main_arg13))
    (m ((c.tc : Thread Cert.Tail0Ideal.nD Cert.Tail0Ideal.τ).loc Cert.Tail0Ideal.main_arg14)) (m ((c.tc : Thread Cert.Tail0Ideal.nD Cert.Tail0Ideal.τ).loc Cert.Tail0Ideal.main_arg15)) (i 0) (i 1)
  rw [← eq_ix2 i] at e
  exact e

/-- Layer 0's last part gives its reference's result. -/
theorem algebraic_tail0 : Cert.algebraic_Tail0Ideal_Tail0RefIdeal := by
  pair_intro
  · run_from Cert.Tail0Ideal.Gen.run_blocks m g
  · run_from Cert.Tail0RefIdeal.Value.run m' g'
    have e := Cert.Tail0RefIdeal.Read.val_main_v107_eq (StableHlo.launchContents m' c)
    rw [show StableHlo.launchContents m' c (Proc.devRef .tc Cert.Tail0RefIdeal.main_arg0) = m ((c.tc : Thread Cert.Tail0Ideal.nD Cert.Tail0Ideal.τ).loc Cert.Tail0Ideal.main_arg0) from (hagree c).1,
      show StableHlo.launchContents m' c (Proc.devRef .tc Cert.Tail0RefIdeal.main_arg1) = m ((c.tc : Thread Cert.Tail0Ideal.nD Cert.Tail0Ideal.τ).loc Cert.Tail0Ideal.main_arg1) from (hagree c).2.1,
      show StableHlo.launchContents m' c (Proc.devRef .tc Cert.Tail0RefIdeal.main_arg2) = m ((c.tc : Thread Cert.Tail0Ideal.nD Cert.Tail0Ideal.τ).loc Cert.Tail0Ideal.main_arg2) from (hagree c).2.2.1,
      show StableHlo.launchContents m' c (Proc.devRef .tc Cert.Tail0RefIdeal.main_arg3) = m ((c.tc : Thread Cert.Tail0Ideal.nD Cert.Tail0Ideal.τ).loc Cert.Tail0Ideal.main_arg3) from (hagree c).2.2.2.1,
      show StableHlo.launchContents m' c (Proc.devRef .tc Cert.Tail0RefIdeal.main_arg4) = m ((c.tc : Thread Cert.Tail0Ideal.nD Cert.Tail0Ideal.τ).loc Cert.Tail0Ideal.main_arg4) from (hagree c).2.2.2.2.1,
      show StableHlo.launchContents m' c (Proc.devRef .tc Cert.Tail0RefIdeal.main_arg5) = m ((c.tc : Thread Cert.Tail0Ideal.nD Cert.Tail0Ideal.τ).loc Cert.Tail0Ideal.main_arg5) from (hagree c).2.2.2.2.2.1,
      show StableHlo.launchContents m' c (Proc.devRef .tc Cert.Tail0RefIdeal.main_arg6) = m ((c.tc : Thread Cert.Tail0Ideal.nD Cert.Tail0Ideal.τ).loc Cert.Tail0Ideal.main_arg6) from (hagree c).2.2.2.2.2.2.1,
      show StableHlo.launchContents m' c (Proc.devRef .tc Cert.Tail0RefIdeal.main_arg7) = m ((c.tc : Thread Cert.Tail0Ideal.nD Cert.Tail0Ideal.τ).loc Cert.Tail0Ideal.main_arg7) from (hagree c).2.2.2.2.2.2.2.1,
      show StableHlo.launchContents m' c (Proc.devRef .tc Cert.Tail0RefIdeal.main_arg8) = m ((c.tc : Thread Cert.Tail0Ideal.nD Cert.Tail0Ideal.τ).loc Cert.Tail0Ideal.main_arg8) from (hagree c).2.2.2.2.2.2.2.2.1,
      show StableHlo.launchContents m' c (Proc.devRef .tc Cert.Tail0RefIdeal.main_arg9) = m ((c.tc : Thread Cert.Tail0Ideal.nD Cert.Tail0Ideal.τ).loc Cert.Tail0Ideal.main_arg9) from (hagree c).2.2.2.2.2.2.2.2.2.1,
      show StableHlo.launchContents m' c (Proc.devRef .tc Cert.Tail0RefIdeal.main_arg10) = m ((c.tc : Thread Cert.Tail0Ideal.nD Cert.Tail0Ideal.τ).loc Cert.Tail0Ideal.main_arg10) from (hagree c).2.2.2.2.2.2.2.2.2.2.1,
      show StableHlo.launchContents m' c (Proc.devRef .tc Cert.Tail0RefIdeal.main_arg11) = m ((c.tc : Thread Cert.Tail0Ideal.nD Cert.Tail0Ideal.τ).loc Cert.Tail0Ideal.main_arg11) from (hagree c).2.2.2.2.2.2.2.2.2.2.2.1,
      show StableHlo.launchContents m' c (Proc.devRef .tc Cert.Tail0RefIdeal.main_arg12) = m ((c.tc : Thread Cert.Tail0Ideal.nD Cert.Tail0Ideal.τ).loc Cert.Tail0Ideal.main_arg12) from (hagree c).2.2.2.2.2.2.2.2.2.2.2.2.1,
      show StableHlo.launchContents m' c (Proc.devRef .tc Cert.Tail0RefIdeal.main_arg13) = m ((c.tc : Thread Cert.Tail0Ideal.nD Cert.Tail0Ideal.τ).loc Cert.Tail0Ideal.main_arg13) from (hagree c).2.2.2.2.2.2.2.2.2.2.2.2.2.1,
      show StableHlo.launchContents m' c (Proc.devRef .tc Cert.Tail0RefIdeal.main_arg14) = m ((c.tc : Thread Cert.Tail0Ideal.nD Cert.Tail0Ideal.τ).loc Cert.Tail0Ideal.main_arg14) from (hagree c).2.2.2.2.2.2.2.2.2.2.2.2.2.2.1,
      show StableHlo.launchContents m' c (Proc.devRef .tc Cert.Tail0RefIdeal.main_arg15) = m ((c.tc : Thread Cert.Tail0Ideal.nD Cert.Tail0Ideal.τ).loc Cert.Tail0Ideal.main_arg15) from (hagree c).2.2.2.2.2.2.2.2.2.2.2.2.2.2.2] at e
    exact e.trans ((tail0_results m c).trans (Cert.Tail0Ideal.Tile.final m c).symm)

/-- The certificate. -/
theorem claim : Cert.Claim := ⟨Cert.Diff.Gen.facts, Cert.DiffIdeal.Gen.facts, Cert.DiffRefIdeal.Gen.facts, Cert.Tail.Gen.facts, Cert.TailIdeal.Gen.facts,
  Cert.TailRefIdeal.Gen.facts, Cert.Tail0.Gen.facts, Cert.Tail0Ideal.Gen.facts, Cert.Tail0RefIdeal.Gen.facts, Cert.Pre_finite.Gen.facts,
  frame_diff, frame_diff_ideal, frame_diff_ideal_pre, frame_ref, frame_ref_pre, frame_tail, frame_tail_ideal, frame_tail_ref,
  frame_tail0, frame_tail0_ideal, frame_tail0_ref, trivial, algebraic_diff, trivial, algebraic_tail, trivial, algebraic_tail0⟩

end Cert.Proof

end
